-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_finite : Cert.Pre_in_range_finite.Facts),
    quiescent_Kernel (hKernel := hKernel)
    ∧ quiescent_KernelIdeal (hKernelIdeal := hKernelIdeal)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range_finite.lean ====
abbrev S32768x1024 : Shape := ⟨2, ![32768, 1024]⟩
abbrev S32768 : Shape := ⟨1, ![32768]⟩
abbrev S1024 : Shape := ⟨1, ![1024]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S32768x1024 .f32) (main_arg1 : IVec S32768 32) (main_arg2 : FVec F S1024 .f32) (main_arg3 : FVec F S1024 .f32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 16#32
  let main_v3 : IVec S32768 32 := broadcastInDim S32768 ![] bcast_S_S32768 main_c_1
  let main_v4 : IVec S32768 1 := cmpi .slt main_arg1 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  let main_v7 : FVec F S32768x1024 .f32 := Host.absf main_arg0
  let main_cst : FVec F S_ .f32 := constant S_ .f32 0x7F800000#32
  let main_v8 : FVec F S32768x1024 .f32 := broadcastInDim S32768x1024 ![] bcast_S_S32768x1024 main_cst
  let main_v9 : IVec S32768x1024 1 := cmpf .olt main_v7 main_v8
  let main_c_3 : IVec S_ 1 := constantI S_ 1 1#1
  let main_v10 : IVec S_ 1 := (fun x v => Host.reduce IntOp.andi x v reducesTo_S32768x1024_S_d0_1 h_S_) main_v9 main_c_3
  let main_v11 : IVec S_ 1 := andi main_v6 main_v10
  main_v11
-- ==== Kernel.lean ====
abbrev S32768x1024 : Shape := ⟨2, ![32768, 1024]⟩
abbrev S32768 : Shape := ⟨1, ![32768]⟩
abbrev S1024 : Shape := ⟨1, ![1024]⟩
abbrev S32x1x1024 : Shape := ⟨3, ![32, 1, 1024]⟩
abbrev S1x1024 : Shape := ⟨2, ![1, 1024]⟩
abbrev S1024x1024 : Shape := ⟨2, ![1024, 1024]⟩
abbrev S1x1x1024 : Shape := ⟨3, ![1, 1, 1024]⟩
abbrev S16x1024 : Shape := ⟨2, ![16, 1024]⟩
abbrev S16x128 : Shape := ⟨2, ![16, 128]⟩
abbrev S16x1 : Shape := ⟨2, ![16, 1]⟩
abbrev S16 : Shape := ⟨1, ![16]⟩
abbrev S16x2 : Shape := ⟨2, ![16, 2]⟩
abbrev S1024x2 : Shape := ⟨2, ![1024, 2]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024, .f32⟩
  | .hbm, ⟨3, _⟩ => ⟨S1024, .f32⟩
  | .hbm, ⟨4, _⟩ => ⟨S32x1x1024, .i32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .i32⟩
  | .local _ .vmem, ⟨3, _⟩ => ⟨S1x1x1024, .i32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S16x1024, .f32⟩
  | .local _ .vmem, ⟨9, _⟩ => ⟨S16x1024, .f32⟩
  | .local _ .vmem, ⟨10, _⟩ => ⟨S16x128, .f32⟩
  | .local _ .vmem, ⟨11, _⟩ => ⟨S16x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def k0_cond4 (i : grid0.Coords) : BitVec 1 :=
  let arg0 : BitVec 32 := BitVec.ofNat 32 (i 0).val
  let c32_i32_6 : BitVec 32 := 32#32
  let v15 : BitVec 1 := Scalar.cmpi .sge arg0 c32_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x1024 : Shape := ⟨2, ![32768, 1024]⟩
abbrev S32768 : Shape := ⟨1, ![32768]⟩
abbrev S1024 : Shape := ⟨1, ![1024]⟩
abbrev S_ : Shape := ⟨0, ![]⟩
abbrev S16 : Shape := ⟨1, ![16]⟩
abbrev S32768x1 : Shape := ⟨2, ![32768, 1]⟩
abbrev S16x1024 : Shape := ⟨2, ![16, 1024]⟩
abbrev S1 : Shape := ⟨1, ![1]⟩
abbrev S1x1 : Shape := ⟨2, ![1, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024, .f32⟩
  | .hbm, ⟨3, _⟩ => ⟨S1024, .f32⟩
  | .hbm, ⟨4, _⟩ => ⟨S_, .i32⟩
  | .hbm, ⟨5, _⟩ => ⟨S16, .i32⟩
  | .hbm, ⟨6, _⟩ => ⟨S_, .i32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i1⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S32768, .i32⟩
  | .hbm, ⟨17, _⟩ => ⟨S32768x1, .i32⟩
  | .hbm, ⟨18, _⟩ => ⟨S_, .i32⟩
  | .hbm, ⟨19, _⟩ => ⟨S32768, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .f32⟩
  | .hbm, ⟨25, _⟩ => ⟨S_, .f32⟩
  | .hbm, ⟨26, _⟩ => ⟨S16x1024, .f32⟩
  | .hbm, ⟨27, _⟩ => ⟨S32768x1, .i32⟩
  | .hbm, ⟨28, _⟩ => ⟨S16x1024, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S1, .i32⟩
  | .hbm, ⟨41, _⟩ => ⟨S_, .i32⟩
  | .hbm, ⟨42, _⟩ => ⟨S32768x1, .i32⟩
  | .hbm, ⟨43, _⟩ => ⟨S32768x1, .i1⟩
  | .hbm, ⟨44, _⟩ => ⟨S1x1, .i32⟩
  | .hbm, ⟨45, _⟩ => ⟨S32768x1, .i32⟩
  | .hbm, ⟨46, _⟩ => ⟨S32768x1, .i1⟩
  | .hbm, ⟨47, _⟩ => ⟨S32768x1, .i1⟩
  | .hbm, ⟨48, _⟩ => ⟨S_, .i1⟩
  | .hbm, ⟨49, _⟩ => ⟨S32768, .i1⟩
  | .hbm, ⟨50, _⟩ => ⟨S32768, .f32⟩
  | .hbm, ⟨51, _⟩ => ⟨S_, .f32⟩
  | .hbm, ⟨52, _⟩ => ⟨S32768, .f32⟩
  | .hbm, ⟨53, _⟩ => ⟨S32768, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S16x1024, .f32⟩
  | .hbm, ⟨60, _⟩ => ⟨S32768x1, .i32⟩
  | .hbm, ⟨61, _⟩ => ⟨S16x1024, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S32768, .i32⟩
  | .hbm, ⟨72, _⟩ => ⟨S32768x1, .i32⟩
  | .hbm, ⟨73, _⟩ => ⟨S1, .i32⟩
  | .hbm, ⟨74, _⟩ => ⟨S_, .i32⟩
  | .hbm, ⟨75, _⟩ => ⟨S32768x1, .i32⟩
  | .hbm, ⟨76, _⟩ => ⟨S32768x1, .i1⟩
  | .hbm, ⟨77, _⟩ => ⟨S1x1, .i32⟩
  | .hbm, ⟨78, _⟩ => ⟨S32768x1, .i32⟩
  | .hbm, ⟨79, _⟩ => ⟨S32768x1, .i1⟩
  | .hbm, ⟨80, _⟩ => ⟨S32768x1, .i1⟩
  | .hbm, ⟨81, _⟩ => ⟨S_, .i1⟩
  | .hbm, ⟨82, _⟩ => ⟨S32768, .i1⟩
  | .hbm, ⟨83, _⟩ => ⟨S32768, .f32⟩
  | .hbm, ⟨84, _⟩ => ⟨S_, .f32⟩
  | .hbm, ⟨85, _⟩ => ⟨S32768, .f32⟩
  | .hbm, ⟨86, _⟩ => ⟨S32768, .f32⟩
  | .hbm, ⟨87, _⟩ => ⟨S32768x1, .f32⟩
  | .hbm, ⟨88, _⟩ => ⟨S32768x1024, .f32⟩
  | .hbm, ⟨89, _⟩ => ⟨S32768x1024, .f32⟩
  | .hbm, ⟨90, _⟩ => ⟨S_, .f32⟩
  | .hbm, ⟨91, _⟩ => ⟨S32768x1, .f32⟩
  | .hbm, ⟨92, _⟩ => ⟨S32768x1, .f32⟩
  | .hbm, ⟨93, _⟩ => ⟨S32768x1, .f32⟩
  | .hbm, ⟨94, _⟩ => ⟨S32768x1024, .f32⟩
  | .hbm, ⟨95, _⟩ => ⟨S32768x1024, .f32⟩
  | .hbm, ⟨96, _⟩ => ⟨S1x1024, .f32⟩
  | .hbm, ⟨97, _⟩ => ⟨S32768x1024, .f32⟩
  | .hbm, ⟨98, _⟩ => ⟨S32768x1024, .f32⟩
  | .hbm, ⟨99, _⟩ => ⟨S1x1024, .f32⟩
  | .hbm, ⟨100, _⟩ => ⟨S32768x1024, .f32⟩
  | .hbm, ⟨101, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_7 : Ref sig .tc := ⟨.hbm, 62, rfl⟩
abbrev main_v26 : Ref sig .tc := ⟨.hbm, 63, rfl⟩
abbrev main_v27 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_cst : Ref sig .tc := ⟨.hbm, 84, rfl⟩
abbrev main_call2_v14 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_cst_8 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩

abbrev nD : Nat := 1
abbrev τ : Topo := Topo.v7x

variable {F : FTy → Type} [FloatOps F]
-- ==== Proof.Body.lean ====
/-
  ONE RUN OF THE KERNEL'S BODY, by case of its conditionals. The grid has 64 points: points 0 to 31 add one block of
  1024 rows to the running sums (point 0 clears them first), point 32 turns the sums into one pair of numbers per
  segment, and points 32 to 63 write one normalised block each. A body is stated on any staging memrefs, over any
  float values: what each scratch buffer and the output block hold afterwards, in the names of the skeleton's payloads.
-/
module

public import proofs.«01_k».proof.Proof.Gen.KernelIdeal.Skeleton
public import proofs.«01_k».proof.Proof.Gen.KernelIdeal.Frame
public import Idealize.ShloMosaic.Lib.Pipeline.Value
public import Idealize.ShloMosaic.Lib.ValueIdx
public import Idealize.ShloMosaic.Lib.ValueIdxCoords
public import Idealize.ShloMosaic.Lib.WritesUnit
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The first column of a 16 × 128 scratch buffer. -/
abbrev col (x : Vec F S16x128 .f32) : Vec F S16x1 .f32 :=
  View.ld (Val := Elt F) x (Rect.unit (s := S16x128) ![0, 0] S16x1.size inb_S16x128_S16x1_0_0)

/-- The second column of a 16 × 128 scratch buffer. -/
abbrev col1 (x : Vec F S16x128 .f32) : Vec F S16x1 .f32 :=
  View.ld (Val := Elt F) x (Rect.unit (s := S16x128) ![0, 1] S16x1.size inb_S16x128_S16x1_0_1)

/-- The first two columns of a 16 × 128 scratch buffer. -/
abbrev cols (x : Vec F S16x128 .f32) : Vec F S16x2 .f32 :=
  View.ld (Val := Elt F) x (Rect.unit (s := S16x128) ![0, 0] S16x2.size inb_S16x128_S16x2_0_0)

/-- The condition of the body's first conditional: the first point. -/
abbrev cFirst (i : grid0.Coords) : Prop := (Scalar.cmpi .ne (Scalar.extui (Scalar.cmpi .eq (BitVec.ofNat 32 (i 0).val) 0#32)) 0#32) = 1#1
/-- The condition of its second: an accumulating point. -/
abbrev cAcc (i : grid0.Coords) : Prop := (Scalar.cmpi .ne (Scalar.extui (Scalar.cmpi .slt (BitVec.ofNat 32 (i 0).val) 32#32)) 0#32) = 1#1
/-- The condition of its third: the point that finishes the sums. -/
abbrev cFin (i : grid0.Coords) : Prop := (Scalar.cmpi .ne (Scalar.extui (Scalar.cmpi .eq (BitVec.ofNat 32 (i 0).val) 32#32)) 0#32) = 1#1
/-- The condition of its fourth: a writing point. -/
abbrev cOut (i : grid0.Coords) : Prop := k0_cond4 i = 1#1

/-- A load through the rectangle just stored reads the stored values. -/
theorem ld_writes_self {Val : EltTy → Type} {κ : Kind} {sp : Space} {s : Shape} {e : EltTy} (v : View sig κ sp s e) (f : v.ty.Contents Val)
    {off size : Fin s.rank → ℕ} (inb : ∀ a, off a + size a ≤ s.size a) (w : (Rect.unit off size inb).shape.Idx → Val e) (L : List (View.Piece Val s e)) :
    View.ld (v.read Val (v.writes Val f (⟨Rect.unit off size inb, w⟩ :: L))) (Rect.unit off size inb) = w :=
  funext fun y => View.read_writes_cons_unit_of_mem v f inb w L _ y rfl fun a => by
    show off a + 1 * (y a).val = _; omega

/-- A load through a rectangle apart from the one just stored, on some axis, reads what the earlier stores left. -/
theorem ld_writes_apart {Val : EltTy → Type} {κ : Kind} {sp : Space} {s : Shape} {e : EltTy} (v : View sig κ sp s e) (f : v.ty.Contents Val)
    {off size off' size' : Fin s.rank → ℕ} (inb : ∀ a, off a + size a ≤ s.size a) (inb' : ∀ a, off' a + size' a ≤ s.size a)
    (w : (Rect.unit off size inb).shape.Idx → Val e) (L : List (View.Piece Val s e)) (a : Fin s.rank)
    (ha : off' a + size' a ≤ off a ∨ off a + size a ≤ off' a) :
    View.ld (v.read Val (v.writes Val f (⟨Rect.unit off size inb, w⟩ :: L))) (Rect.unit off' size' inb')
      = View.ld (v.read Val (v.writes Val f L)) (Rect.unit off' size' inb') :=
  funext fun y => View.read_writes_cons_unit_of_not_mem v f inb w L _ rfl a (by
    have h1 : ((Rect.unit off' size' inb').idx y a).val = off' a + 1 * (y a).val := rfl
    have h2 : (y a).val < size' a := (y a).isLt
    omega)

/-- Two scratch buffers that agree on the first column and on the second agree on both together. -/
theorem cols_ext {d d' : Vec F S16x128 .f32} (h0 : col d = col d') (h1 : col1 d = col1 d') : cols d = cols d' := by
  funext y
  have hy : (y 1).val < 2 := (y 1).isLt
  by_cases h : (y 1).val = 0
  · have e : (Rect.unit (s := S16x128) ![0, 0] S16x2.size inb_S16x128_S16x2_0_0).idx y
        = (Rect.unit (s := S16x128) ![0, 0] S16x1.size inb_S16x128_S16x1_0_0).idx (ix2 (y 0) (0 : Fin 1)) := by
      funext a; refine Fin.ext ?_
      match a with
      | ⟨0, _⟩ => rfl
      | ⟨1, _⟩ => show 0 + 1 * (y 1).val = 0 + 1 * 0; omega
    show d _ = d' _
    rw [e]; exact congrFun h0 _
  · have e : (Rect.unit (s := S16x128) ![0, 0] S16x2.size inb_S16x128_S16x2_0_0).idx y
        = (Rect.unit (s := S16x128) ![0, 1] S16x1.size inb_S16x128_S16x1_0_1).idx (ix2 (y 0) (0 : Fin 1)) := by
      funext a; refine Fin.ext ?_
      match a with
      | ⟨0, _⟩ => rfl
      | ⟨1, _⟩ => show 0 + 1 * (y 1).val = 1 + 1 * 0; omega
    show d _ = d' _
    rw [e]; exact congrFun h1 _

/-- What storing the first column and then the second leaves of the first, -/
theorem col_stored (v : View sig .tc .vmem S16x128 .f32) (f : v.ty.Contents (Elt F)) (w0 w1 : Vec F S16x1 .f32) :
    col (v.read (Elt F) (v.writes (Elt F) f [⟨Rect.unit ![0, 1] S16x1.size inb_S16x128_S16x1_0_1, w1⟩, ⟨Rect.unit ![0, 0] S16x1.size inb_S16x128_S16x1_0_0, w0⟩])) = w0 :=
  (ld_writes_apart v f inb_S16x128_S16x1_0_1 inb_S16x128_S16x1_0_0 w1 _ (1 : Fin 2) (.inl (by decide))).trans (ld_writes_self v f _ w0 _)

/-- and of the second. -/
theorem col1_stored (v : View sig .tc .vmem S16x128 .f32) (f : v.ty.Contents (Elt F)) (w0 w1 : Vec F S16x1 .f32) :
    col1 (v.read (Elt F) (v.writes (Elt F) f [⟨Rect.unit ![0, 1] S16x1.size inb_S16x128_S16x1_0_1, w1⟩, ⟨Rect.unit ![0, 0] S16x1.size inb_S16x128_S16x1_0_0, w0⟩])) = w1 :=
  ld_writes_self v f _ w1 _

/-- A load covered by earlier stores, read as a load of what those stores leave over any contents. -/
theorem readCov_eq {Val : EltTy → Type} [∀ e, Nonempty (Val e)] {κ : Kind} {sp : Space} {s : Shape} {e : EltTy} (v : View sig κ sp s e)
    (L : List (View.Piece Val s e)) (r : Rect s) : v.readCov L r.toLoadRect = View.ld (v.read Val (v.writes Val v.junk L)) r := rfl

/-- The first point: the sums start from zero and take the first block; the output block and the last scratch buffer stay. -/
theorem run_A (c : Dev nD) (i : grid0.Coords) (arg1 : Memref sig .tc .vmem S1024x1024 .f32) (harg1 : arg1.IsWhole) (arg2 : Memref sig .tc .vmem S1x1x1024 .i32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (arg6 : Memref sig .tc .vmem S16x1024 .f32) (harg6 : arg6.IsWhole) (arg7 : Memref sig .tc .vmem S16x1024 .f32) (harg7 : arg7.IsWhole) (arg8 : Memref sig .tc .vmem S16x128 .f32) (harg8 : arg8.IsWhole) (arg9 : Memref sig .tc .vmem S16x128 .f32) (harg9 : arg9.IsWhole)
    (hc0 : cFirst i) (hc1 : cAcc i) (hc2 : ¬cFin i) (hc3 : ¬cOut i)
    (x0 : Vec F S1024x1024 .f32) (x1 : Vec F S1x1x1024 .i32) (x2 x3 : Vec F S1x1024 .f32) (xo : Vec F S1024x1024 .f32)
    (s0 s1 : Vec F S16x1024 .f32) (s2 s3 : Vec F S16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare s0 ∗ owns (c : Thread nD τ) arg7 fullShare s1 ∗ owns (c : Thread nD τ) arg8 fullShare s2 ∗ owns (c : Thread nD τ) arg9 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare (k0_pay6 x1 x0 k0_pay1) ∗ owns (c : Thread nD τ) arg7 fullShare (k0_pay7 x1 x0 k0_pay2) ∗ (∃ d, owns (c : Thread nD τ) arg8 fullShare d ∗ owns (c : Thread nD τ) arg9 fullShare s3 ∗ ⌜col d = k0_pay8 x1 (col k0_pay3)⌝)) -∗ K ⟨⟩))
      ⊢ wp frame (wpE (defs₀ (F := F)) Variants.none c none) E (cc0__seg_ln_kernel i arg1 harg1 arg2 harg2 arg3 harg3 arg4 harg4 arg5 harg5 arg6 harg6 arg7 harg7 arg8 harg8 arg9 harg9) K := by
  simp only [cc0__seg_ln_kernel_eq_skeleton]; unfold cc0__seg_ln_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_full]
    simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3, readCov_eq]
    exact congrArg (k0_pay6 x1 x0) (View.read_writes_full _ _ inb_S16x1024_S16x1024_0_0 _ _)
  isplitl [H7]
  · iexists _; isplitr; swap; · iexact H7
    ipureintro
    sl_unfold_words
    rw [View.read_writes_full]
    simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3, readCov_eq]
    exact congrArg (k0_pay7 x1 x0) (View.read_writes_full _ _ inb_S16x1024_S16x1024_0_0 _ _)
  iexists _
  isplitl [H8]
  · iexists _; isplitr; swap; · iexact H8
    ipureintro; rfl
  isplitl [H9]
  · iexists _; isplitr; · ipureintro; exact harg9.read_unread _
    iexact H9
  ipureintro
  sl_unfold_words
  refine (ld_writes_self _ _ _ _ _).trans ?_
  simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3, readCov_eq]
  exact congrArg (fun z => k0_pay8 x1 (col z)) (View.read_writes_full _ _ inb_S16x128_S16x128_0_0 _ _)

/-- An accumulating point after the first: the sums grow by one block; the output block and the last scratch buffer stay. -/
theorem run_B (c : Dev nD) (i : grid0.Coords) (arg1 : Memref sig .tc .vmem S1024x1024 .f32) (harg1 : arg1.IsWhole) (arg2 : Memref sig .tc .vmem S1x1x1024 .i32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (arg6 : Memref sig .tc .vmem S16x1024 .f32) (harg6 : arg6.IsWhole) (arg7 : Memref sig .tc .vmem S16x1024 .f32) (harg7 : arg7.IsWhole) (arg8 : Memref sig .tc .vmem S16x128 .f32) (harg8 : arg8.IsWhole) (arg9 : Memref sig .tc .vmem S16x128 .f32) (harg9 : arg9.IsWhole)
    (hc0 : ¬cFirst i) (hc1 : cAcc i) (hc2 : ¬cFin i) (hc3 : ¬cOut i)
    (x0 : Vec F S1024x1024 .f32) (x1 : Vec F S1x1x1024 .i32) (x2 x3 : Vec F S1x1024 .f32) (xo : Vec F S1024x1024 .f32)
    (s0 s1 : Vec F S16x1024 .f32) (s2 s3 : Vec F S16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare s0 ∗ owns (c : Thread nD τ) arg7 fullShare s1 ∗ owns (c : Thread nD τ) arg8 fullShare s2 ∗ owns (c : Thread nD τ) arg9 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare (k0_pay6 x1 x0 s0) ∗ owns (c : Thread nD τ) arg7 fullShare (k0_pay7 x1 x0 s1) ∗ (∃ d, owns (c : Thread nD τ) arg8 fullShare d ∗ owns (c : Thread nD τ) arg9 fullShare s3 ∗ ⌜col d = k0_pay8 x1 (col s2)⌝)) -∗ K ⟨⟩))
      ⊢ wp frame (wpE (defs₀ (F := F)) Variants.none c none) E (cc0__seg_ln_kernel i arg1 harg1 arg2 harg2 arg3 harg3 arg4 harg4 arg5 harg5 arg6 harg6 arg7 harg7 arg8 harg8 arg9 harg9) K := by
  simp only [cc0__seg_ln_kernel_eq_skeleton]; unfold cc0__seg_ln_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_full]
    simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3]
  isplitl [H7]
  · iexists _; isplitr; swap; · iexact H7
    ipureintro
    rw [View.read_writes_full]
    simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3]
  iexists _
  isplitl [H8]
  · iexists _; isplitr; swap; · iexact H8
    ipureintro; rfl
  isplitl [H9]
  · iexists _; isplitr; · ipureintro; exact harg9.read_unread _
    iexact H9
  ipureintro
  refine (ld_writes_self _ _ _ _ _).trans ?_
  simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3]

/-- The point that finishes the sums: the last scratch buffer takes the two numbers of each segment, and the first output block is written from them. -/
theorem run_C (c : Dev nD) (i : grid0.Coords) (arg1 : Memref sig .tc .vmem S1024x1024 .f32) (harg1 : arg1.IsWhole) (arg2 : Memref sig .tc .vmem S1x1x1024 .i32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (arg6 : Memref sig .tc .vmem S16x1024 .f32) (harg6 : arg6.IsWhole) (arg7 : Memref sig .tc .vmem S16x1024 .f32) (harg7 : arg7.IsWhole) (arg8 : Memref sig .tc .vmem S16x128 .f32) (harg8 : arg8.IsWhole) (arg9 : Memref sig .tc .vmem S16x128 .f32) (harg9 : arg9.IsWhole)
    (hc0 : ¬cFirst i) (hc1 : ¬cAcc i) (hc2 : cFin i) (hc3 : cOut i)
    (x0 : Vec F S1024x1024 .f32) (x1 : Vec F S1x1x1024 .i32) (x2 x3 : Vec F S1x1024 .f32) (xo : Vec F S1024x1024 .f32)
    (s0 s1 : Vec F S16x1024 .f32) (s2 s3 : Vec F S16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare s0 ∗ owns (c : Thread nD τ) arg7 fullShare s1 ∗ owns (c : Thread nD τ) arg8 fullShare s2 ∗ owns (c : Thread nD τ) arg9 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s0 ∗ owns (c : Thread nD τ) arg7 fullShare s1 ∗ owns (c : Thread nD τ) arg8 fullShare s2 ∗ (∃ d, owns (c : Thread nD τ) arg9 fullShare d ∗ owns (c : Thread nD τ) arg5 fullShare (k0_pay14 x1 x0 (cols d) x2 x3) ∗ ⌜col d = k0_pay12 s0 s1 (col s2) ∧ col1 d = k0_pay13 s0 s1 (col s2)⌝)) -∗ K ⟨⟩))
      ⊢ wp frame (wpE (defs₀ (F := F)) Variants.none c none) E (cc0__seg_ln_kernel i arg1 harg1 arg2 harg2 arg3 harg3 arg4 harg4 arg5 harg5 arg6 harg6 arg7 harg7 arg8 harg8 arg9 harg9) K := by
  simp only [cc0__seg_ln_kernel_eq_skeleton]; unfold cc0__seg_ln_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _
  isplitl [H9]
  · iexists _; isplitr; swap; · iexact H9
    ipureintro; rfl
  isplitl [H5]
  · iexists _; isplitr; swap; · iexact H5
    ipureintro
    rw [View.read_writes_full]
    sl_unfold_words
    simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3, readCov_eq]
    congr 1
    exact cols_ext ((col_stored _ _ _ _).trans (col_stored _ _ _ _).symm) ((col1_stored _ _ _ _).trans (col1_stored _ _ _ _).symm)
  ipureintro
  sl_unfold_words
  simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3, readCov_eq]
  exact ⟨col_stored _ _ _ _, col1_stored _ _ _ _⟩

/-- A writing point after that one: the output block is written from the two numbers of each segment; every scratch buffer stays. -/
theorem run_D (c : Dev nD) (i : grid0.Coords) (arg1 : Memref sig .tc .vmem S1024x1024 .f32) (harg1 : arg1.IsWhole) (arg2 : Memref sig .tc .vmem S1x1x1024 .i32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (arg6 : Memref sig .tc .vmem S16x1024 .f32) (harg6 : arg6.IsWhole) (arg7 : Memref sig .tc .vmem S16x1024 .f32) (harg7 : arg7.IsWhole) (arg8 : Memref sig .tc .vmem S16x128 .f32) (harg8 : arg8.IsWhole) (arg9 : Memref sig .tc .vmem S16x128 .f32) (harg9 : arg9.IsWhole)
    (hc0 : ¬cFirst i) (hc1 : ¬cAcc i) (hc2 : ¬cFin i) (hc3 : cOut i)
    (x0 : Vec F S1024x1024 .f32) (x1 : Vec F S1x1x1024 .i32) (x2 x3 : Vec F S1x1024 .f32) (xo : Vec F S1024x1024 .f32)
    (s0 s1 : Vec F S16x1024 .f32) (s2 s3 : Vec F S16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare s0 ∗ owns (c : Thread nD τ) arg7 fullShare s1 ∗ owns (c : Thread nD τ) arg8 fullShare s2 ∗ owns (c : Thread nD τ) arg9 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay14 x1 x0 (cols s3) x2 x3) ∗ owns (c : Thread nD τ) arg6 fullShare s0 ∗ owns (c : Thread nD τ) arg7 fullShare s1 ∗ owns (c : Thread nD τ) arg8 fullShare s2 ∗ owns (c : Thread nD τ) arg9 fullShare s3) -∗ K ⟨⟩))
      ⊢ wp frame (wpE (defs₀ (F := F)) Variants.none c none) E (cc0__seg_ln_kernel i arg1 harg1 arg2 harg2 arg3 harg3 arg4 harg4 arg5 harg5 arg6 harg6 arg7 harg7 arg8 harg8 arg9 harg9) K := by
  simp only [cc0__seg_ln_kernel_eq_skeleton]; unfold cc0__seg_ln_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    rw [View.read_writes_full]
    simp only [harg1.read_unread, harg2.read_unread, harg3.read_unread, harg4.read_unread, harg6.read_unread, harg7.read_unread, harg8.read_unread, harg9.read_unread, View.readAt_eq_ld, View.ld_unit_zero (S := S1024x1024) hz2, View.ld_unit_zero (S := S1x1024) hz2, View.ld_unit_zero (S := S16x1024) hz2, View.ld_unit_zero (S := S1x1x1024) hz3]
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.KernelIdeal.Body

end
-- ==== Proof.KernelRun.lean ====
/-
  THE KERNEL'S RUN. The scratch buffers after a number of points, named as a chain over the points (the two sums and
  the count grow one block at a time, then stop), the pipeline's invariant and proof data, one body obligation at every
  point, and the launch: every execution ends, the arguments are unchanged, every counter is at zero, and the output
  array is what the points' blocks leave in it.
-/
module

public import proofs.«01_k».proof.Proof.Body
public import Idealize.ShloMosaic.Lib.Claim

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N64 : cfg0.N = 64 := N_0

/-! ## The body's cases, by the point -/

theorem first_iff : ∀ t : Fin cfg0.N, cFirst (grid0.coords t) ↔ t.val = 0 :=
  (by decide +kernel : ∀ t : Fin grid0.N, cFirst (grid0.coords t) ↔ t.val = 0)
theorem acc_iff : ∀ t : Fin cfg0.N, cAcc (grid0.coords t) ↔ t.val < 32 :=
  (by decide +kernel : ∀ t : Fin grid0.N, cAcc (grid0.coords t) ↔ t.val < 32)
theorem fin_iff : ∀ t : Fin cfg0.N, cFin (grid0.coords t) ↔ t.val = 32 :=
  (by decide +kernel : ∀ t : Fin grid0.N, cFin (grid0.coords t) ↔ t.val = 32)
theorem out_iff : ∀ t : Fin cfg0.N, cOut (grid0.coords t) ↔ 32 ≤ t.val :=
  (by decide +kernel : ∀ t : Fin grid0.N, cOut (grid0.coords t) ↔ 32 ≤ t.val)
theorem idle4_of_lt : ∀ t : Fin cfg0.N, t.val < 32 → cfg0.idle 4 (grid0.coords t) = true :=
  (by decide +kernel : ∀ t : Fin grid0.N, t.val < 32 → cfg0.idle 4 (grid0.coords t) = true)
theorem live4_of_le : ∀ t : Fin cfg0.N, 32 ≤ t.val → cfg0.idle 4 (grid0.coords t) = false :=
  (by decide +kernel : ∀ t : Fin grid0.N, 32 ≤ t.val → cfg0.idle 4 (grid0.coords t) = false)
theorem flush4_iff : ∀ t : Fin cfg0.N, (cfg0.win 4).flush t = true ↔ 32 ≤ t.val :=
  (by decide +kernel : ∀ t : Fin grid0.N, (cfg0.win 4).flush t = true ↔ 32 ≤ t.val)

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl

/-! ## The memrefs a point runs on -/

abbrev st0 (t : Fin cfg0.N) : Memref sig .tc .vmem S1024x1024 .f32 := win0_0.stage (cfg0.slots t 0)
abbrev st1 (t : Fin cfg0.N) : Memref sig .tc .vmem S1x1x1024 .i32 := win0_1.stage (cfg0.slots t 1)
abbrev st2 (t : Fin cfg0.N) : Memref sig .tc .vmem S1x1024 .f32 := win0_2.stage (cfg0.slots t 2)
abbrev st3 (t : Fin cfg0.N) : Memref sig .tc .vmem S1x1024 .f32 := win0_3.stage (cfg0.slots t 3)
abbrev st4 (t : Fin cfg0.N) : Memref sig .tc .vmem S1024x1024 .f32 := win0_4.stage (cfg0.slots t 4)

abbrev sc0 : Memref sig .tc .vmem S16x1024 .f32 := Memref.whole cc0_scratch0
abbrev sc1 : Memref sig .tc .vmem S16x1024 .f32 := Memref.whole cc0_scratch1
abbrev sc2 : Memref sig .tc .vmem S16x128 .f32 := Memref.whole cc0_scratch2
abbrev sc3 : Memref sig .tc .vmem S16x128 .f32 := Memref.whole cc0_scratch3

/-- The launch's own invariant: the four scratch buffers at some contents, and the generator register. -/
theorem launched_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The chain of the scratch buffers -/

/-- Point `n` of the grid. -/
abbrev pt (n : ℕ) : Fin cfg0.N := ⟨n % 64, by rw [N64]; exact Nat.mod_lt _ (by decide)⟩

theorem pt_val (t : Fin cfg0.N) : pt t.val = t := Fin.ext (Nat.mod_eq_of_lt (lt_of_lt_of_eq t.isLt N64))

/-- The block of 1024 rows at point `n`, -/
abbrev xb (c : Dev nD) (n : ℕ) : Vec F S1024x1024 .f32 := iblk m c 0 (pt n)
/-- its rows' segment numbers, -/
abbrev ib (c : Dev nD) (n : ℕ) : Vec F S1x1x1024 .i32 := iblk m c 1 (pt n)
/-- the gain -/
abbrev gb (c : Dev nD) (n : ℕ) : Vec F S1x1024 .f32 := iblk m c 2 (pt n)
/-- and the bias. -/
abbrev bb (c : Dev nD) (n : ℕ) : Vec F S1x1024 .f32 := iblk m c 3 (pt n)

/-- The per-segment sums of the rows after `n` blocks, -/
def sum1 (c : Dev nD) : ℕ → Vec F S16x1024 .f32
  | 0 => k0_pay1
  | n + 1 => k0_pay6 (ib m c n) (xb m c n) (sum1 c n)
/-- of the squared rows, -/
def sum2 (c : Dev nD) : ℕ → Vec F S16x1024 .f32
  | 0 => k0_pay2
  | n + 1 => k0_pay7 (ib m c n) (xb m c n) (sum2 c n)
/-- and the per-segment row counts. -/
def cnt (c : Dev nD) : ℕ → Vec F S16x1 .f32
  | 0 => col k0_pay3
  | n + 1 => k0_pay8 (ib m c n) (cnt c n)

/-- Each segment's reciprocal standard deviation, -/
abbrev rstd (c : Dev nD) : Vec F S16x1 .f32 := k0_pay12 (sum1 m c 32) (sum2 m c 32) (cnt m c 32)
/-- and its product with the mean. -/
abbrev mrstd (c : Dev nD) : Vec F S16x1 .f32 := k0_pay13 (sum1 m c 32) (sum2 m c 32) (cnt m c 32)

/-- The two side by side. -/
def pair (c : Dev nD) : Vec F S16x2 .f32 := fun y =>
  if (y 1).val = 0 then rstd m c (ix2 (y 0) (0 : Fin 1)) else mrstd m c (ix2 (y 0) (0 : Fin 1))

/-- Columns 0 and 1 of a scratch buffer that holds the two numbers are the pair. -/
theorem cols_eq (c : Dev nD) (d : Vec F S16x128 .f32) (h0 : col d = rstd m c) (h1 : col1 d = mrstd m c) : cols d = pair m c := by
  funext y
  have hy : (y 1).val < 2 := (y 1).isLt
  unfold pair
  by_cases h : (y 1).val = 0
  · rw [if_pos h, ← h0]
    refine congrArg d (funext fun a => Fin.ext ?_)
    match a with
    | ⟨0, _⟩ => rfl
    | ⟨1, _⟩ => show 0 + 1 * (y 1).val = 0 + 1 * 0; omega
  · rw [if_neg h, ← h1]
    refine congrArg d (funext fun a => Fin.ext ?_)
    match a with
    | ⟨0, _⟩ => rfl
    | ⟨1, _⟩ => show 0 + 1 * (y 1).val = 1 + 1 * 0; omega

/-- The block written at point `n`. -/
abbrev outb (c : Dev nD) (n : ℕ) : Vec F S1024x1024 .f32 := k0_pay14 (ib m c n) (xb m c n) (pair m c) (gb m c n) (bb m c n)

/-! ## The invariant and the proof data -/

/-- What the scratch buffers hold before point `n`. -/
def Inv (c : Dev nD) (n : ℕ) (d0 d1 : Vec F S16x1024 .f32) (d2 d3 : Vec F S16x128 .f32) : Prop :=
  (0 < n → d0 = sum1 m c (min n 32) ∧ d1 = sum2 m c (min n 32) ∧ col d2 = cnt m c (min n 32))
    ∧ (32 < n → col d3 = rstd m c ∧ col1 d3 = mrstd m c)

/-- The scratch buffers at such contents, and the generator register. -/
def Ph (c : Dev nD) (n : ℕ) : sProp 𝕄 :=
  iprop((∃ d0 d1 d2 d3, owns (c : Thread nD τ) sc0 fullShare d0 ∗ owns (c : Thread nD τ) sc1 fullShare d1 ∗ owns (c : Thread nD τ) sc2 fullShare d2 ∗ owns (c : Thread nD τ) sc3 fullShare d3 ∗ ⌜Inv m c n d0 d1 d2 d3⌝)
    ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outb m c t.val
  Φ t := Ph m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outb m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem leaves_0 (c : Dev nD) (t : Fin cfg0.N) : (dats m 0 c).leavesExact 0 t = owns (c : Thread nD τ) (st0 t) fullShare (iblk m c 0 t) := by
  rw [← after_0]
theorem leaves_1 (c : Dev nD) (t : Fin cfg0.N) : (dats m 0 c).leavesExact 1 t = owns (c : Thread nD τ) (st1 t) fullShare (iblk m c 1 t) := by
  rw [← after_1]
theorem leaves_2 (c : Dev nD) (t : Fin cfg0.N) : (dats m 0 c).leavesExact 2 t = owns (c : Thread nD τ) (st2 t) fullShare (iblk m c 2 t) := by
  rw [← after_2]
theorem leaves_3 (c : Dev nD) (t : Fin cfg0.N) : (dats m 0 c).leavesExact 3 t = owns (c : Thread nD τ) (st3 t) fullShare (iblk m c 3 t) := by
  rw [← after_3]
/-- A writing point leaves its block, -/
theorem leaves_4 (c : Dev nD) (t : Fin cfg0.N) (h : 32 ≤ t.val) : (dats m 0 c).leavesExact 4 t = owns (c : Thread nD τ) (st4 t) fullShare (outb m c t.val) := by
  rw [← after_4]; unfold Dat.leavesExact; rw [live4_of_le t h]
/-- an accumulating point whatever it found. -/
theorem leaves_4_idle (c : Dev nD) (t : Fin cfg0.N) (h : t.val < 32) :
    (dats m 0 c).leavesExact 4 t = iprop(∃ d, owns (c : Thread nD τ) (st4 t) fullShare ((dats m 0 c).before 4 t d)) :=
  (dats m 0 c).leavesExact_idle 4 t (idle4_of_lt t h) (by
    have := flush4_iff t
    cases hf : (cfg0.win 4).flush t with
    | false => rfl
    | true => exact absurd (this.mp hf) (by omega))

theorem Ph_castSucc (c : Dev nD) (t : Fin cfg0.N) : (dats m 0 c).Φ t.castSucc = Ph m c t.val := by
  dsimp only [dats]; rfl

/-! ## The invariant from point to point -/

theorem inv_first (c : Dev nD) (n : ℕ) (hn : n = 0) {d2 d3 : Vec F S16x128 .f32}
    (h : col d2 = k0_pay8 (ib m c n) (col k0_pay3)) :
    Inv m c (n + 1) (k0_pay6 (ib m c n) (xb m c n) k0_pay1) (k0_pay7 (ib m c n) (xb m c n) k0_pay2) d2 d3 := by
  subst hn
  exact ⟨fun _ => ⟨rfl, rfl, h⟩, fun h => absurd h (by omega)⟩

theorem inv_acc (c : Dev nD) (n : ℕ) (h0 : 0 < n) (hn : n < 32) {d0 d1 : Vec F S16x1024 .f32} {d2 d3 d2' : Vec F S16x128 .f32}
    (hi : Inv m c n d0 d1 d2 d3) (h : col d2' = k0_pay8 (ib m c n) (col d2)) :
    Inv m c (n + 1) (k0_pay6 (ib m c n) (xb m c n) d0) (k0_pay7 (ib m c n) (xb m c n) d1) d2' d3 := by
  obtain ⟨e0, e1, e2⟩ := hi.1 h0
  rw [min_eq_left (by omega : n ≤ 32)] at e0 e1 e2
  refine ⟨fun _ => ?_, fun h => absurd h (by omega)⟩
  rw [min_eq_left (by omega : n + 1 ≤ 32), e0, e1, h, e2]
  exact ⟨rfl, rfl, rfl⟩

theorem inv_fin (c : Dev nD) (n : ℕ) (hn : n = 32) {d0 d1 : Vec F S16x1024 .f32} {d2 d3 d3' : Vec F S16x128 .f32}
    (hi : Inv m c n d0 d1 d2 d3) (h : col d3' = k0_pay12 d0 d1 (col d2) ∧ col1 d3' = k0_pay13 d0 d1 (col d2)) :
    Inv m c (n + 1) d0 d1 d2 d3' := by
  subst hn
  obtain ⟨e0, e1, e2⟩ := hi.1 (by omega)
  refine ⟨fun _ => ⟨e0, e1, e2⟩, fun _ => ?_⟩
  rw [h.1, h.2, e0, e1, e2]
  exact ⟨rfl, rfl⟩

theorem inv_out (c : Dev nD) (n : ℕ) (hn : 32 < n) {d0 d1 : Vec F S16x1024 .f32} {d2 d3 : Vec F S16x128 .f32}
    (hi : Inv m c n d0 d1 d2 d3) : Inv m c (n + 1) d0 d1 d2 d3 := by
  refine ⟨fun _ => ?_, fun _ => hi.2 hn⟩
  have := hi.1 (by omega)
  rw [min_eq_right (by omega : 32 ≤ n)] at this
  rw [min_eq_right (by omega : 32 ≤ n + 1)]; exact this

/-! ## The body at every point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem ib_pt (c : Dev nD) (t : Fin cfg0.N) : ib m c t.val = iblk m c 1 t := by rw [ib, pt_val]
theorem xb_pt (c : Dev nD) (t : Fin cfg0.N) : xb m c t.val = iblk m c 0 t := by rw [xb, pt_val]
theorem gb_pt (c : Dev nD) (t : Fin cfg0.N) : gb m c t.val = iblk m c 2 t := by rw [gb, pt_val]
theorem bb_pt (c : Dev nD) (t : Fin cfg0.N) : bb m c t.val = iblk m c 3 t := by rw [bb, pt_val]

set_option maxHeartbeats 3200000 in
/-- The body at any point, by its case: what it reads is what the invariant and the blocks say, so its run applies,
    and what it leaves is the invariant one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Ph_castSucc,
    show (dats m 0 c).Φ t.succ = Ph m c (t.val + 1) from rfl, leaves_0, leaves_1, leaves_2, leaves_3]
  have hN : t.val < 64 := lt_of_lt_of_eq t.isLt N64
  unfold Ph
  iintro ⟨⟨⟨%d0, %d1, %d2, %d3, HS0, HS1, HS2, HS3, %hi⟩, Hg⟩, Ho, ⟨%e0, H0⟩, ⟨%e1, H1⟩, ⟨%e2, H2⟩, ⟨%e3, H3⟩, ⟨%e4, H4⟩⟩
  by_cases h0 : t.val < 32
  · rw [leaves_4_idle m c t h0]
    by_cases hz : t.val = 0
    · iapply (run_A c (grid0.coords t) _ _ _ _ _ _ _ _ _ _ _ _ _ _ _ _ _ _ ((first_iff t).mpr hz) ((acc_iff t).mpr h0) (fun h => absurd ((fin_iff t).mp h) (by omega)) (fun h => absurd ((out_iff t).mp h) (by omega)) (iblk m c 0 t) (iblk m c 1 t) (iblk m c 2 t) (iblk m c 3 t) _ d0 d1 d2 d3 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, ⟨%d, HS2, HS3, %hd⟩⟩
      isplitl [HS0 HS1 HS2 HS3 Hg]
      · isplitr [Hg]
        · iexists _, _, _, _
          isplitl [HS0]; · iexact HS0
          isplitl [HS1]; · iexact HS1
          isplitl [HS2]; · iexact HS2
          isplitl [HS3]; · iexact HS3
          ipureintro
          rw [← ib_pt] at hd
          rw [← ib_pt, ← xb_pt]
          exact inv_first m c t.val hz hd
        iexact Hg
      isplitl [Ho]; · iexact Ho
      isplitl [H0]; · iexact H0
      isplitl [H1]; · iexact H1
      isplitl [H2]; · iexact H2
      isplitl [H3]; · iexact H3
      iexists _; iexact H4
    · iapply (run_B c (grid0.coords t) _ _ _ _ _ _ _ _ _ _ _ _ _ _ _ _ _ _ (fun h => hz ((first_iff t).mp h)) ((acc_iff t).mpr h0) (fun h => absurd ((fin_iff t).mp h) (by omega)) (fun h => absurd ((out_iff t).mp h) (by omega)) (iblk m c 0 t) (iblk m c 1 t) (iblk m c 2 t) (iblk m c 3 t) _ d0 d1 d2 d3 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, ⟨%d, HS2, HS3, %hd⟩⟩
      isplitl [HS0 HS1 HS2 HS3 Hg]
      · isplitr [Hg]
        · iexists _, _, _, _
          isplitl [HS0]; · iexact HS0
          isplitl [HS1]; · iexact HS1
          isplitl [HS2]; · iexact HS2
          isplitl [HS3]; · iexact HS3
          ipureintro
          rw [← ib_pt] at hd
          rw [← ib_pt, ← xb_pt]
          exact inv_acc m c t.val (by omega) h0 hi hd
        iexact Hg
      isplitl [Ho]; · iexact Ho
      isplitl [H0]; · iexact H0
      isplitl [H1]; · iexact H1
      isplitl [H2]; · iexact H2
      isplitl [H3]; · iexact H3
      iexists _; iexact H4
  · rw [leaves_4 m c t (by omega)]
    by_cases hz : t.val = 32
    · iapply (run_C c (grid0.coords t) _ _ _ _ _ _ _ _ _ _ _ _ _ _ _ _ _ _ (fun h => absurd ((first_iff t).mp h) (by omega)) (fun h => h0 ((acc_iff t).mp h)) ((fin_iff t).mpr hz) ((out_iff t).mpr (by omega)) (iblk m c 0 t) (iblk m c 1 t) (iblk m c 2 t) (iblk m c 3 t) _ d0 d1 d2 d3 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, HS0, HS1, HS2, ⟨%d, HS3, H4, %hd⟩⟩
      have hi' := inv_fin m c t.val hz hi hd
      have hc := hi'.2 (by omega)
      rw [cols_eq m c d hc.1 hc.2]
      isplitl [HS0 HS1 HS2 HS3 Hg]
      · isplitr [Hg]
        · iexists _, _, _, _
          isplitl [HS0]; · iexact HS0
          isplitl [HS1]; · iexact HS1
          isplitl [HS2]; · iexact HS2
          isplitl [HS3]; · iexact HS3
          ipureintro
          exact hi'
        iexact Hg
      isplitl [Ho]; · iexact Ho
      isplitl [H0]; · iexact H0
      isplitl [H1]; · iexact H1
      isplitl [H2]; · iexact H2
      isplitl [H3]; · iexact H3
      rw [outb, ib_pt, xb_pt, gb_pt, bb_pt]
      iexact H4
    · iapply (run_D c (grid0.coords t) _ _ _ _ _ _ _ _ _ _ _ _ _ _ _ _ _ _ (fun h => absurd ((first_iff t).mp h) (by omega)) (fun h => h0 ((acc_iff t).mp h)) (fun h => hz ((fin_iff t).mp h)) ((out_iff t).mpr (by omega)) (iblk m c 0 t) (iblk m c 1 t) (iblk m c 2 t) (iblk m c 3 t) _ d0 d1 d2 d3 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      have hc := hi.2 (by omega)
      rw [cols_eq m c d3 hc.1 hc.2]
      isplitl [HS0 HS1 HS2 HS3 Hg]
      · isplitr [Hg]
        · iexists _, _, _, _
          isplitl [HS0]; · iexact HS0
          isplitl [HS1]; · iexact HS1
          isplitl [HS2]; · iexact HS2
          isplitl [HS3]; · iexact HS3
          ipureintro
          exact inv_out m c t.val (by omega) hi
        iexact Hg
      isplitl [Ho]; · iexact Ho
      isplitl [H0]; · iexact H0
      isplitl [H1]; · iexact H1
      isplitl [H2]; · iexact H2
      isplitl [H3]; · iexact H3
      rw [outb, ib_pt, xb_pt, gb_pt, bb_pt]
      iexact H4

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Ph m c 0 from rfl, launched_eq]
  unfold Ph
  iintro ⟨⟨⟨%d0, H0⟩, ⟨%d1, H1⟩, ⟨%d2, H2⟩, ⟨%d3, H3⟩⟩, Hg⟩
  isplitr [Hg]
  · iexists _, _, _, _
    isplitl [H0]; · iexact H0
    isplitl [H1]; · iexact H1
    isplitl [H2]; · iexact H2
    isplitl [H3]; · iexact H3
    ipureintro
    exact ⟨fun h => absurd h (by omega), fun h => absurd h (by omega)⟩
  iexact Hg

theorem hout (c : Dev nD) : (dats m 0 c).Φ (Fin.last cfg0.N) ⊢ Pipeline.ΦA spec0 c := by
  rw [show (dats m 0 c).Φ (Fin.last cfg0.N) = Ph m c (Fin.last cfg0.N).val from rfl, launched_eq]
  unfold Ph
  iintro ⟨⟨%d0, %d1, %d2, %d3, H0, H1, H2, H3, -⟩, Hg⟩
  isplitr [Hg]
  · isplitl [H0]; · iexists _; iexact H0
    isplitl [H1]; · iexists _; iexact H1
    isplitl [H2]; · iexists _; iexact H2
    iexists _; iexact H3
  iexact Hg

/-! ## The launch -/

set_option backward.isDefEq.respectTransparency.types false in
/-- Every execution ends, with every window's array at what the points leave in it, every other array as the region
    found it, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

/-- The frame: the argument arrays end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main m ρ))

/-- The output array ends at what the points' blocks leave in it, the arguments unchanged. -/
theorem run_value : θ_run defs (onTc (τ := τ) (main (F := F))) ⟨m, fun _ => 0, ρ⟩ (fun r => ∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2.1) c).1 4, h.1 c⟩) (θ_run_and (unchanged m ρ) (run_main m ρ))

end Cert.KernelIdeal.Run

end
-- ==== Proof.KernelBits.lean ====
/-
  THE KERNEL OVER MACHINE WORDS. The kernel as printed and its idealization are the same program, no operation being
  replaced, and the run of `Proof/KernelRun.lean` is stated for any float values. Read at machine words it is the
  printed kernel's run: the two body tables are equal, and so are the two host programs.
-/
module

public import proofs.«01_k».proof.Defs
public import proofs.«01_k».proof.Proof.Gen.Kernel
public import proofs.«01_k».proof.Proof.KernelRun

@[expose] public section

noncomputable section

namespace Cert.KernelBits

open Idealize.ShloMosaic Idealize.ShloMosaic.TcCoe Idealize.SL.Sem

/-- The two body tables run the same body under their one label. -/
theorem same_bodies : Cert.Kernel.defs₀ (F := Bits) = Cert.KernelIdeal.defs₀ (F := Bits) := by
  refine congrArg Defs.onTc (funext fun l => funext fun a => ?_)
  match l, a with
  | 0, (t, s) => rfl
  | ⟨n + 1, h⟩, _ => exact absurd h (Nat.not_lt.2 (Nat.le_add_left _ _))

/-- The same tables with the call's pipeline around them. -/
theorem same_tables : Cert.Kernel.defs (F := Bits) = Cert.KernelIdeal.defs (F := Bits) :=
  congrArg (Pipeline.defs Cert.KernelIdeal.pcfgs) same_bodies

/-- The printed kernel ends with its arguments unchanged and every counter at zero. -/
theorem frame : Cert.quiescent_Kernel := fun m ρ _ => by
  rw [same_tables]
  exact Cert.KernelIdeal.Run.quiescent (F := Bits) m ρ

end Cert.KernelBits
end
-- ==== Proof.KernelBlock.lean ====
/-
  What one block of the kernel computes, read element by element at the ideal values.

  Every value the kernel stores is a tower of vector operations over the block it was handed. Here each tower is
  read at one element: the one-hot mask of the ids is a number 0 or 1, the products on the matrix unit are sums over
  the rows of a block (or over the sixteen segments), and the row statistics are quotients of sums.
-/
module

public import proofs.«01_k».proof.Proof.KernelRun
public import Idealize.ShloMosaic.Lib.Pointwise

@[expose] public section

set_option maxRecDepth 16384

noncomputable section

namespace Cert.KernelIdeal.Block

open Cert.KernelIdeal Cert.KernelIdeal.Gen
open Idealize.ShloMosaic Idealize.ShloMosaic.TcCoe

/-- The one-hot mask of an id word at segment `s`, as a number. -/
def hot (w : BitVec 32) (s : Fin 16) : EReal := if w = BitVec.ofNat 32 s.val then 1 else 0

/-- A comparison's bit widened to a word and read as a number is the mask. -/
theorem hot_of_cmp (w : BitVec 32) (s : Fin 16) :
    FloatOps.sitofp (F := Ideal) FTy.f32 (BitVec.setWidth 32 (IntOp.cmpi CmpIPredicate.eq w (BitVec.ofNat 32 s.val)))
      = hot w s := by
  show (((BitVec.setWidth 32 (IntOp.cmpi CmpIPredicate.eq w (BitVec.ofNat 32 s.val))).toInt : ℝ) : EReal) = hot w s
  unfold hot
  by_cases h : w = BitVec.ofNat 32 s.val
  · simp [h, IntOp.cmpi]
  · have hb : (w == BitVec.ofNat 32 s.val) = false := by simpa using h
    simp [h, hb, IntOp.cmpi]

/-- The mask selects: among the segments, only that of the id contributes. -/
theorem sum_hot (s0 : Fin 16) (f : Fin 16 → EReal) :
    ∑ s : Fin 16, hot (BitVec.ofNat 32 s0.val) s * f s = f s0 := by
  rw [Finset.sum_eq_single s0]
  · simp [hot]
  · intro s _ hs
    have : ¬ BitVec.ofNat 32 s0.val = BitVec.ofNat 32 s.val := by
      intro h
      have := congrArg BitVec.toNat h
      simp only [BitVec.toNat_ofNat] at this
      have h1 := s0.isLt
      have h2 := s.isLt
      rw [Nat.mod_eq_of_lt (by omega), Nat.mod_eq_of_lt (by omega)] at this
      exact hs (Fin.ext this.symm)
    simp [hot, this]
  · intro h; exact absurd (Finset.mem_univ _) h

variable (v : Vec Ideal S1x1x1024 .i32) (x : Vec Ideal S1024x1024 .f32) (S S' : Vec Ideal S16x1024 .f32)
  (C : Vec Ideal S16x1 .f32)

/-- The mask the first matrix product reads. -/
theorem mask_apply (s : Fin 16) (r : Fin 1024) :
    k0_pay5 (F := Ideal) v (ix2 s r) = hot (v (ix3 0 0 r)) s := by
  pointwise [k0_pay5, k0_pay4]
  exact hot_of_cmp _ _

/-- The cleared sums and the cleared counts. -/
theorem zero1_apply (s : Fin 16) (j : Fin 1024) : k0_pay1 (F := Ideal) (ix2 s j) = 0 := by
  pointwise [k0_pay1]
theorem zero2_apply (s : Fin 16) (j : Fin 1024) : k0_pay2 (F := Ideal) (ix2 s j) = 0 := by
  pointwise [k0_pay2]
theorem zero3_apply (s : Fin 16) (j : Fin 128) : k0_pay3 (F := Ideal) (ix2 s j) = 0 := by
  pointwise [k0_pay3]

/-- A point adds to a segment's sums its rows of the block. -/
theorem sum_apply (s : Fin 16) (j : Fin 1024) :
    k0_pay6 (F := Ideal) v x S (ix2 s j) = S (ix2 s j) + ∑ r : Fin 1024, hot (v (ix3 0 0 r)) s * x (ix2 r j) := by
  pointwise [k0_pay6]
  simp only [mask_apply]

/-- A point adds to a segment's sums of squares its rows' squares. -/
theorem sumsq_apply (s : Fin 16) (j : Fin 1024) :
    k0_pay7 (F := Ideal) v x S (ix2 s j)
      = S (ix2 s j) + ∑ r : Fin 1024, hot (v (ix3 0 0 r)) s * (x (ix2 r j) * x (ix2 r j)) := by
  pointwise [k0_pay7]
  simp only [mask_apply]

/-- A point adds to a segment's count how many of the block's rows are its own. -/
theorem count_apply (s : Fin 16) :
    k0_pay8 (F := Ideal) v C (ix2 s 0) = C (ix2 s 0) + ∑ r : Fin 1024, hot (v (ix3 0 0 r)) s := by
  pointwise [k0_pay8, k0_pay4]
  simp only [hot_of_cmp]

/-- A segment's number of elements, at least one. -/
def den (c : EReal) : EReal := max (c * Ideal.ofBits .f32 0x44800000#32) 1

/-- A segment's mean, from its sums and its count. -/
def meanOf (a c : EReal) : EReal := Ideal.div a (den c)

/-- The reciprocal of a segment's standard deviation, from its sum, its sum of squares and its count. -/
def rstdOf (a b c : EReal) : EReal :=
  Ideal.rsqrt (max (Ideal.div b (den c) - meanOf a c * meanOf a c) 0 + Ideal.ofBits .f32 0x3727C5AC#32)

theorem mean_apply (s : Fin 16) :
    k0_pay10 (F := Ideal) S C (ix2 s 0) = meanOf (∑ j : Fin 1024, S (ix2 s j)) (C (ix2 s 0)) := by
  pointwise [k0_pay10, k0_pay9]
  rfl

theorem rstd_apply (s : Fin 16) :
    k0_pay12 (F := Ideal) S S' C (ix2 s 0)
      = rstdOf (∑ j : Fin 1024, S (ix2 s j)) (∑ j : Fin 1024, S' (ix2 s j)) (C (ix2 s 0)) := by
  pointwise [k0_pay12, k0_pay11, k0_pay10, k0_pay9]
  rfl

theorem mrstd_apply (s : Fin 16) :
    k0_pay13 (F := Ideal) S S' C (ix2 s 0)
      = meanOf (∑ j : Fin 1024, S (ix2 s j)) (C (ix2 s 0))
        * rstdOf (∑ j : Fin 1024, S (ix2 s j)) (∑ j : Fin 1024, S' (ix2 s j)) (C (ix2 s 0)) := by
  pointwise [k0_pay13, k0_pay11, k0_pay10, k0_pay9]
  rfl

/-- A written element: the row's statistics are selected by the mask, then gain and bias are applied. -/
theorem out_apply (p : Vec Ideal S16x2 .f32) (g b : Vec Ideal S1x1024 .f32) (r j : Fin 1024) :
    k0_pay14 (F := Ideal) v x p g b (ix2 r j)
      = (x (ix2 r j) * (∑ s : Fin 16, hot (v (ix3 0 0 r)) s * p (ix2 s 0))
          - ∑ s : Fin 16, hot (v (ix3 0 0 r)) s * p (ix2 s 1)) * g (ix2 0 j) + b (ix2 0 j) := by
  pointwise [k0_pay14, k0_pay4]
  simp only [hot_of_cmp]

end Cert.KernelIdeal.Block
end
-- ==== Proof.KernelArray.lean ====
/-
  What the kernel's output array holds, in terms of the four arguments.

  The blocks the points read are rows of the arguments; the sums a point adds to run over its block; after the
  thirty-two accumulating points they run over all rows. Every writing point's block is then a block of one array,
  named here by a closed formula.
-/
module

public import proofs.«01_k».proof.Proof.KernelBlock
public import Idealize.ShloMosaic.Lib.StableHlo.ReadAt

@[expose] public section

set_option maxRecDepth 16384

noncomputable section

namespace Cert.KernelIdeal.Arr

open Cert.KernelIdeal Cert.KernelIdeal.Gen Cert.KernelIdeal.Run Cert.KernelIdeal.Block
open Idealize.ShloMosaic Idealize.ShloMosaic.TcCoe
open Idealize.ShloMosaic.Pipeline (Dat Cfg Window)

variable (m : (ℓ : Loc nD τ sig) → Buf (Elt Ideal) ℓ) (c : Dev nD)

/-! ## The arguments -/

/-- The rows, -/
abbrev X : Vec Ideal S32768x1024 .f32 := m ((c.tc : Thread nD τ).loc main_arg0)
/-- their segment ids, -/
abbrev ID : Vec Ideal S32768 .i32 := m ((c.tc : Thread nD τ).loc main_arg1)
/-- the gain, -/
abbrev GA : Vec Ideal S1024 .f32 := m ((c.tc : Thread nD τ).loc main_arg2)
/-- and the bias. -/
abbrev BI : Vec Ideal S1024 .f32 := m ((c.tc : Thread nD τ).loc main_arg3)

/-! ## The windows' block indices -/

theorem idx0_0 : ∀ t : Fin cfg0.N, win0_0.index t 0 = t.val % 32 :=
  (by decide +kernel : ∀ t : Fin grid0.N, win0_0.index t 0 = t.val % 32)
theorem idx0_1 : ∀ t : Fin cfg0.N, win0_0.index t 1 = 0 :=
  (by decide +kernel : ∀ t : Fin grid0.N, win0_0.index t 1 = 0)
theorem idx1_0 : ∀ t : Fin cfg0.N, win0_1.index t 0 = t.val % 32 :=
  (by decide +kernel : ∀ t : Fin grid0.N, win0_1.index t 0 = t.val % 32)
theorem idx1_1 : ∀ t : Fin cfg0.N, win0_1.index t 1 = 0 :=
  (by decide +kernel : ∀ t : Fin grid0.N, win0_1.index t 1 = 0)
theorem idx1_2 : ∀ t : Fin cfg0.N, win0_1.index t 2 = 0 :=
  (by decide +kernel : ∀ t : Fin grid0.N, win0_1.index t 2 = 0)
theorem idx2 : ∀ t : Fin cfg0.N, ∀ a : Fin 2, win0_2.index t a = 0 :=
  (by decide +kernel : ∀ t : Fin grid0.N, ∀ a : Fin 2, win0_2.index t a = 0)
theorem idx3 : ∀ t : Fin cfg0.N, ∀ a : Fin 2, win0_3.index t a = 0 :=
  (by decide +kernel : ∀ t : Fin grid0.N, ∀ a : Fin 2, win0_3.index t a = 0)
theorem idx4_0 : ∀ t : Fin cfg0.N, win0_4.index t 0 = t.val - 32 :=
  (by decide +kernel : ∀ t : Fin grid0.N, win0_4.index t 0 = t.val - 32)
theorem idx4_1 : ∀ t : Fin cfg0.N, win0_4.index t 1 = 0 :=
  (by decide +kernel : ∀ t : Fin grid0.N, win0_4.index t 1 = 0)
theorem xsize4_0 : ∀ t : Fin cfg0.N, win0_4.xsize (grid0.coords t) 0 = 1024 :=
  (by decide +kernel : ∀ t : Fin grid0.N, win0_4.xsize (grid0.coords t) 0 = 1024)
theorem xsize4_1 : ∀ t : Fin cfg0.N, win0_4.xsize (grid0.coords t) 1 = 1024 :=
  (by decide +kernel : ∀ t : Fin grid0.N, win0_4.xsize (grid0.coords t) 1 = 1024)

/-! ## The blocks read -/

/-- Row `r` of the `b`-th block of rows. -/
def row (b : ℕ) (hb : b < 32) (r : Fin 1024) : Fin 32768 := ⟨b * 1024 + r.val, by have := r.isLt; omega⟩

theorem mod_lt (n : ℕ) : n % 32 < 32 := Nat.mod_lt _ (by decide)

theorem pt_mod (n : ℕ) : (pt n).val % 32 = n % 32 := by
  show n % 64 % 32 = n % 32
  omega

theorem xb_apply (n : ℕ) (r j : Fin 1024) : xb m c n (ix2 r j) = X m c (ix2 (row (n % 32) (mod_lt n) r) j) := by
  unfold xb iblk
  rw [View.read_apply]
  show V m c main_arg0 _ = _
  rw [V_main_arg0]
  congr 1
  funext a
  apply Fin.ext
  match a with
  | ⟨0, _⟩ =>
    show win0_0.index (pt n) 0 * 1024 + 1 * r.val = n % 32 * 1024 + r.val
    rw [idx0_0, pt_mod]; omega
  | ⟨1, _⟩ =>
    show win0_0.index (pt n) 1 * 1024 + 1 * j.val = j.val
    rw [idx0_1]; omega

theorem ids_apply (b : Fin 32) (r : Fin 1024) :
    (V m c main_v0 : Vec Ideal S32x1x1024 .i32) (ix3 b 0 r) = ID m c (ix1 (row b.val b.isLt r)) := by
  unfold V
  after_reads_at
  rfl

theorem gain_apply (j : Fin 1024) : (V m c main_v1 : Vec Ideal S1x1024 .f32) (ix2 0 j) = GA m c (ix1 j) := by
  unfold V
  after_reads_at

theorem bias_apply (j : Fin 1024) : (V m c main_v2 : Vec Ideal S1x1024 .f32) (ix2 0 j) = BI m c (ix1 j) := by
  unfold V
  after_reads_at

theorem ib_apply (n : ℕ) (r : Fin 1024) : ib m c n (ix3 0 0 r) = ID m c (ix1 (row (n % 32) (mod_lt n) r)) := by
  rw [← ids_apply m c ⟨n % 32, mod_lt n⟩ r]
  unfold ib iblk
  rw [View.read_apply]
  show V m c main_v0 _ = _
  congr 1
  funext a
  apply Fin.ext
  match a with
  | ⟨0, _⟩ =>
    show win0_1.index (pt n) 0 * 1 + 1 * 0 = n % 32
    rw [idx1_0, pt_mod]; omega
  | ⟨1, _⟩ =>
    show win0_1.index (pt n) 1 * 1 + 1 * 0 = 0
    rw [idx1_1]
  | ⟨2, _⟩ =>
    show win0_1.index (pt n) 2 * 1024 + 1 * r.val = r.val
    rw [idx1_2]; omega

theorem gb_apply (n : ℕ) (j : Fin 1024) : gb m c n (ix2 0 j) = GA m c (ix1 j) := by
  rw [← gain_apply m c j]
  unfold gb iblk
  rw [View.read_apply]
  show V m c main_v1 _ = _
  congr 1
  funext a
  apply Fin.ext
  match a with
  | ⟨0, _⟩ =>
    show win0_2.index (pt n) 0 * 1 + 1 * 0 = 0
    rw [idx2]
  | ⟨1, _⟩ =>
    show win0_2.index (pt n) 1 * 1024 + 1 * j.val = j.val
    rw [idx2]; omega

theorem bb_apply (n : ℕ) (j : Fin 1024) : bb m c n (ix2 0 j) = BI m c (ix1 j) := by
  rw [← bias_apply m c j]
  unfold bb iblk
  rw [View.read_apply]
  show V m c main_v2 _ = _
  congr 1
  funext a
  apply Fin.ext
  match a with
  | ⟨0, _⟩ =>
    show win0_3.index (pt n) 0 * 1 + 1 * 0 = 0
    rw [idx3]
  | ⟨1, _⟩ =>
    show win0_3.index (pt n) 1 * 1024 + 1 * j.val = j.val
    rw [idx3]; omega

/-! ## The sums over all rows -/

/-- A chain that starts at zero and adds one term a step is the sum of the terms. -/
theorem chain_sum (f : ℕ → EReal) (g : ℕ → EReal) (h0 : f 0 = 0) (hs : ∀ n, f (n + 1) = f n + g n) (n : ℕ) :
    f n = ∑ b ∈ Finset.range n, g b := by
  induction n with
  | zero => rw [h0, Finset.sum_range_zero]
  | succ n ih => rw [hs, ih, Finset.sum_range_succ]

/-- Thirty-two blocks' sums, each over its rows, are the sum over all rows. -/
theorem blocks_sum (f : Fin 32768 → EReal) :
    ∑ b ∈ Finset.range 32, ∑ r : Fin 1024, f (row (b % 32) (mod_lt b) r) = ∑ i : Fin 32768, f i := by
  rw [Finset.sum_range, Fin.sum_univ_tiles 32 1024 rfl f]
  refine Finset.sum_congr rfl fun b _ => Finset.sum_congr rfl fun r _ => congrArg f (Fin.ext ?_)
  show b.val % 32 * 1024 + r.val = b.val * 1024 + r.val
  rw [Nat.mod_eq_of_lt b.isLt]

theorem sum1_32 (s : Fin 16) (j : Fin 1024) :
    sum1 m c 32 (ix2 s j) = ∑ i : Fin 32768, hot (ID m c (ix1 i)) s * X m c (ix2 i j) := by
  rw [← blocks_sum]
  refine chain_sum (fun n => sum1 m c n (ix2 s j)) _ (zero1_apply s j) (fun n => ?_) 32
  refine (sum_apply _ _ _ s j).trans ?_
  simp only [ib_apply, xb_apply]

theorem sum2_32 (s : Fin 16) (j : Fin 1024) :
    sum2 m c 32 (ix2 s j)
      = ∑ i : Fin 32768, hot (ID m c (ix1 i)) s * (X m c (ix2 i j) * X m c (ix2 i j)) := by
  rw [← blocks_sum]
  refine chain_sum (fun n => sum2 m c n (ix2 s j)) _ (zero2_apply s j) (fun n => ?_) 32
  refine (sumsq_apply _ _ _ s j).trans ?_
  simp only [ib_apply, xb_apply]

theorem col_apply (v : Vec Ideal S16x128 .f32) (s : Fin 16) : Body.col v (ix2 s 0) = v (ix2 s 0) := by
  refine congrArg v (funext fun a => Fin.ext ?_)
  match a with
  | ⟨0, _⟩ => show 0 + 1 * s.val = s.val; omega
  | ⟨1, _⟩ => rfl

theorem cnt_32 (s : Fin 16) : cnt m c 32 (ix2 s 0) = ∑ i : Fin 32768, hot (ID m c (ix1 i)) s := by
  rw [← blocks_sum]
  refine chain_sum (fun n => cnt m c n (ix2 s 0)) _ ((col_apply _ s).trans (zero3_apply s 0)) (fun n => ?_) 32
  refine (count_apply _ _ s).trans ?_
  simp only [ib_apply]

/-! ## The statistics and the output -/

/-- A segment's sum over its rows and their elements, -/
def total (x : Vec Ideal S32768x1024 .f32) (id : Vec Ideal S32768 .i32) (s : Fin 16) : EReal :=
  ∑ j : Fin 1024, ∑ i : Fin 32768, hot (id (ix1 i)) s * x (ix2 i j)
/-- the sum of the squares, -/
def totalSq (x : Vec Ideal S32768x1024 .f32) (id : Vec Ideal S32768 .i32) (s : Fin 16) : EReal :=
  ∑ j : Fin 1024, ∑ i : Fin 32768, hot (id (ix1 i)) s * (x (ix2 i j) * x (ix2 i j))
/-- and the number of rows. -/
def rows (id : Vec Ideal S32768 .i32) (s : Fin 16) : EReal := ∑ i : Fin 32768, hot (id (ix1 i)) s

theorem pair_0 (s : Fin 16) :
    pair m c (ix2 s 0)
      = rstdOf (total (X m c) (ID m c) s) (totalSq (X m c) (ID m c) s) (rows (ID m c) s) := by
  refine Eq.trans (?_ : _ = rstd m c (ix2 s 0)) ?_
  · rw [ix2_eq_valueIdx, ix2_eq_valueIdx]; rfl
  · refine (rstd_apply _ _ _ s).trans ?_
    simp only [sum1_32, sum2_32, cnt_32, total, totalSq, rows]

theorem pair_1 (s : Fin 16) :
    pair m c (ix2 s 1)
      = meanOf (total (X m c) (ID m c) s) (rows (ID m c) s)
        * rstdOf (total (X m c) (ID m c) s) (totalSq (X m c) (ID m c) s) (rows (ID m c) s) := by
  refine Eq.trans (?_ : _ = mrstd m c (ix2 s 0)) ?_
  · rw [ix2_eq_valueIdx, ix2_eq_valueIdx]; rfl
  · refine (mrstd_apply _ _ _ s).trans ?_
    simp only [sum1_32, sum2_32, cnt_32, total, totalSq, rows]

/-- The output array: each row scaled and shifted by its segment's statistics, then by gain and bias. -/
def G (x : Vec Ideal S32768x1024 .f32) (id : Vec Ideal S32768 .i32) (ga bi : Vec Ideal S1024 .f32) :
    Vec Ideal S32768x1024 .f32 := fun y =>
  (x y * (∑ s : Fin 16, hot (id (ix1 (y 0))) s * rstdOf (total x id s) (totalSq x id s) (rows id s))
      - ∑ s : Fin 16, hot (id (ix1 (y 0))) s
          * (meanOf (total x id s) (rows id s) * rstdOf (total x id s) (totalSq x id s) (rows id s)))
    * ga (ix1 (y 1)) + bi (ix1 (y 1))

theorem outb_apply (n : ℕ) (r j : Fin 1024) :
    outb m c n (ix2 r j)
      = G (X m c) (ID m c) (GA m c) (BI m c) (ix2 (row (n % 32) (mod_lt n) r) j) := by
  refine (out_apply _ _ _ _ _ r j).trans ?_
  simp only [ib_apply, xb_apply, gb_apply, bb_apply, pair_0, pair_1]
  rfl

/-- What the writing points leave in the output array. -/
theorem array_eq : (dats m 0 c).arrAt 4 cfg0.N = G (X m c) (ID m c) (GA m c) (BI m c) := by
  refine Dat.arrAt_eq_of_cover (dats m 0 c) 4 _ (fun t hf => ?_) (fun i => ?_)
  · have ht : 32 ≤ t.val := (flush4_iff t).mp hf
    have ht' : t.val < 64 := N64 ▸ t.isLt
    show (cfg0.win 4).cut (grid0.coords t) ((dats m 0 c).after 4 t) = _
    rw [after_4]
    funext y
    rw [View.read_apply]
    have h0 : (y 0).val < 1024 := lt_of_lt_of_eq (y 0).isLt (xsize4_0 t)
    have h1 : (y 1).val < 1024 := lt_of_lt_of_eq (y 1).isLt (xsize4_1 t)
    refine Eq.trans (?_ : _ = outb m c t.val (ix2 ⟨(y 0).val, h0⟩ ⟨(y 1).val, h1⟩)) ?_
    · refine congrArg (outb m c t.val) (funext fun a => ?_)
      match a with
      | ⟨0, _⟩ => rfl
      | ⟨1, _⟩ => rfl
    · rw [outb_apply]
      refine congrArg (G (X m c) (ID m c) (GA m c) (BI m c)) (funext fun a => Fin.ext ?_)
      match a with
      | ⟨0, _⟩ =>
        show t.val % 32 * 1024 + (y 0).val = win0_4.index t 0 * 1024 + 1 * (y 0).val
        rw [idx4_0]; omega
      | ⟨1, _⟩ =>
        show (y 1).val = win0_4.index t 1 * 1024 + 1 * (y 1).val
        rw [idx4_1]; omega
  · have hi0 : (i 0).val < 32768 := (i 0).isLt
    have hi1 : (i 1).val < 1024 := (i 1).isLt
    let t : Fin cfg0.N := ⟨32 + (i 0).val / 1024, by rw [N64]; omega⟩
    refine ⟨t, (flush4_iff t).mpr (by show 32 ≤ 32 + _; omega), ?_⟩
    show i ∈ ((View.whole main_v3).slice (win0_4.rect t)).set
    rw [View.set_slice_whole, Rect.mem_set_unit]
    intro a
    match a with
    | ⟨0, _⟩ =>
      show win0_4.index t 0 * 1024 ≤ (i 0).val ∧ (i 0).val < win0_4.index t 0 * 1024 + win0_4.xsize (grid0.coords t) 0
      rw [idx4_0, xsize4_0]
      show (32 + (i 0).val / 1024 - 32) * 1024 ≤ (i 0).val ∧ (i 0).val < (32 + (i 0).val / 1024 - 32) * 1024 + 1024
      omega
    | ⟨1, _⟩ =>
      show win0_4.index t 1 * 1024 ≤ (i 1).val ∧ (i 1).val < win0_4.index t 1 * 1024 + win0_4.xsize (grid0.coords t) 1
      rw [idx4_1, xsize4_1]
      omega

end Cert.KernelIdeal.Arr
end
-- ==== Proof.RefSegments.lean ====
/-
  THE REFERENCE'S SEGMENT OPERATIONS, read at one element.

  An id that is one of the sixteen segment numbers is left alone by the wrap of negative indices and by the clamp at
  zero. Then a sum scattered over segments is a masked sum over all rows, the number of a segment's rows is a count
  that fits a word, and taking a row's segment reads that segment's entry.
-/
module

public import proofs.«01_k».proof.Proof.KernelArray
public import proofs.«01_k».proof.Proof.Gen.ReferenceIdeal.Run
public import Idealize.ShloMosaic.Lib.Routing.OpsSet
public import Idealize.ShloMosaic.Lib.Routing.OpsPair
public import Idealize.ShloMosaic.Lib.Routing.Ops
public import Idealize.ShloMosaic.Lib.ReduceAll

@[expose] public section

set_option maxRecDepth 16384

noncomputable section

namespace Cert.ReferenceIdeal.Seg

open Cert.ReferenceIdeal Cert.ReferenceIdeal.Gen
open Idealize.ShloMosaic Idealize.ShloMosaic.TcCoe
open Cert.KernelIdeal.Block (hot)

/-- Every id is one of the sixteen segments. -/
def InRange (id : Vec Ideal S32768 .i32) : Prop := ∀ i : Fin 32768, ∃ s : Fin 16, id (ix1 i) = BitVec.ofNat 32 s.val

/-! ## The ids -/

/-- The ids with the negative ones wrapped. -/
def wrap (id : Vec Ideal S32768 .i32) : Vec Ideal S32768 .i32 :=
  select (cmpi .slt id (broadcastInDim S32768 ![] bcast_S_S32768 (constantI S_ 32 0#32)))
    (addi id (broadcastInDim S32768 ![] bcast_S_S32768 (constantI S_ 32 16#32))) id

/-- The ids clamped at zero from below. -/
def clamp (id : Vec Ideal S32768 .i32) : Vec Ideal S32768 .i32 :=
  maxsi (broadcastInDim S32768 ![] bcast_S_S32768 (_root_.id (constantI S_ 32 0#32))) id

/-- The ids as a column. -/
def column (id : Vec Ideal S32768 .i32) : Vec Ideal S32768x1 .i32 :=
  broadcastInDim S32768x1 ![0] bcast_S32768_S32768x1_0 id

variable (id : Vec Ideal S32768 .i32) (hid : InRange id)

theorem word_wrap : ∀ s : Fin 16,
    Scalar.select (IntOp.cmpi .slt (BitVec.ofNat 32 s.val) 0#32) (IntOp.addi (BitVec.ofNat 32 s.val) 16#32) (BitVec.ofNat 32 s.val)
      = BitVec.ofNat 32 s.val := by decide
theorem word_clamp : ∀ s : Fin 16, IntOp.maxsi 0#32 (BitVec.ofNat 32 s.val) = BitVec.ofNat 32 s.val := by decide
theorem word_mask : ∀ s : Fin 16,
    IntOp.andi (IntOp.cmpi .sge (BitVec.ofNat 32 s.val) 0#32) (IntOp.cmpi .sle (BitVec.ofNat 32 s.val) 15#32) = 1#1 := by decide
theorem word_toInt : ∀ s : Fin 16, (BitVec.ofNat 32 s.val).toInt = (s.val : ℤ) := by decide

theorem toInt_iff {w : BitVec 32} (h : ∃ s : Fin 16, w = BitVec.ofNat 32 s.val) (s : Fin 16) :
    w.toInt = (s.val : ℤ) ↔ w = BitVec.ofNat 32 s.val := by
  obtain ⟨s', rfl⟩ := h
  constructor
  · intro e
    rw [word_toInt] at e
    rw [show s' = s from Fin.ext (by exact_mod_cast e)]
  · intro e; rw [e, word_toInt]

include hid in
theorem wrap_eq : wrap id = id := by
  funext y
  obtain ⟨i, rfl⟩ : ∃ i : Fin 32768, y = ix1 i := ⟨y 0, eq_ix1 y⟩
  obtain ⟨s, hs⟩ := hid i
  pointwise [wrap]
  rw [hs]
  exact word_wrap s

include hid in
theorem clamp_eq : clamp id = id := by
  funext y
  obtain ⟨i, rfl⟩ : ∃ i : Fin 32768, y = ix1 i := ⟨y 0, eq_ix1 y⟩
  obtain ⟨s, hs⟩ := hid i
  pointwise [clamp]
  rw [hs]
  exact word_clamp s

theorem column_apply (i : Fin 32768) : column id (ix2 i 0) = id (ix1 i) := by
  pointwise [column]

/-! ## Taking a row's segment -/

/-- A segment's entry for each row, where the row's id is a segment, and a filler elsewhere. -/
def take (v : FVec Ideal S16 .f32) (id : Vec Ideal S32768 .i32) : FVec Ideal S32768 .f32 :=
  select
    (Host.reduce IntOp.andi
      (andi (cmpi .sge (column (wrap id)) (broadcastInDim S32768x1 ![] bcast_S_S32768x1 (constantI S_ 32 0#32)))
        (cmpi .sle (column (wrap id)) (broadcastInDim S32768x1 ![0, 1] bcast_S1x1_S32768x1_0_1
          (broadcastInDim S1x1 ![1] bcast_S1_S1x1_1 (constantI S1 32 15#32)))))
      (constantI S_ 1 1#1) reducesTo_S32768x1_S32768_d1 h_S_)
    (Host.gather gather_S16_S32768x1_S32768_n_0_n_n_0_1_1 v (column (wrap id)))
    (broadcastInDim S32768 ![] bcast_S_S32768 (constant S_ .f32 0x7FC00000#32))

include hid in
theorem take_apply (v : FVec Ideal S16 .f32) (i : Fin 32768) (s : Fin 16) (hs : id (ix1 i) = BitVec.ofNat 32 s.val) :
    take v id (ix1 i) = v (ix1 s) := by
  unfold take
  rw [wrap_eq id hid]
  show Scalar.select _ (Host.gather gather_S16_S32768x1_S32768_n_0_n_n_0_1_1 v (column id) (ix1 i)) _ = _
  rw [Host.reduce_andi_one _ _ _ _ _ rfl ?_]
  · refine (Routing.gather_take1 gather_S16_S32768x1_S32768_n_0_n_n_0_1_1 rfl rfl rfl rfl v (column id) i s ?_ (by decide)).trans ?_
    · rw [← ix2_eq_valueIdx, column_apply, hs]
    · rw [ix1_eq_valueIdx]
  · intro y
    obtain ⟨a, rfl⟩ : ∃ a : Fin 32768, y = ix2 a 0 :=
      ⟨y 0, (eq_ix2 y).trans (congrArg (ix2 (y 0)) (Subsingleton.elim (α := Fin 1) _ _))⟩
    obtain ⟨t, ht⟩ := hid a
    show IntOp.andi (IntOp.cmpi .sge (column id (ix2 a 0)) 0#32) (IntOp.cmpi .sle (column id (ix2 a 0)) 15#32) = 1#1
    rw [column_apply, ht]
    exact word_mask t

/-! ## Counting and summing over segments -/

/-- The number of a segment's rows, as words. -/
def counts (id : Vec Ideal S32768 .i32) : Vec Ideal S16 .i32 :=
  Host.scatter scatter_S16_S32768x1_S32768_n_0_0_1 IntOp.addi (broadcastInDim S16 ![] bcast_S_S16 (constantI S_ 32 0#32))
    (column (wrap (clamp id))) (broadcastInDim S32768 ![] bcast_S_S32768 (constantI S_ 32 1#32))

/-- The number of a segment's rows. -/
def num (id : Vec Ideal S32768 .i32) (s : Fin 16) : ℕ :=
  (Finset.univ.filter fun i : Fin 32768 => id (ix1 i) = BitVec.ofNat 32 s.val).card

theorem num_le (s : Fin 16) : num id s ≤ 32768 :=
  (Finset.card_le_univ _).trans (by rw [Fintype.card_fin])

/-- An update of the count lands at a segment exactly when its row's id is that segment. -/
theorem lands1 (i : Fin 32768) (s : Fin 16) (idx : Vec Ideal S32768x1 .i32) :
    scatter_S16_S32768x1_S32768_n_0_0_1.resultIdx? (ix1 i) idx = some (ix1 s) ↔ (idx (ix2 i 0)).toInt = (s.val : ℤ) := by
  rw [ix1_eq_valueIdx s, Routing.resultIdx?_ix1]
  have hw : scatter_S16_S32768x1_S32768_n_0_0_1.window (ix1 i) 0 = 0 := rfl
  have hst : scatter_S16_S32768x1_S32768_n_0_0_1.start (ix1 i) idx 0 = (idx (ix2 i 0)).toInt := by
    unfold ScatterDims.start
    rw [dif_pos (by decide)]
    refine congrArg (fun y => (idx y).toInt) (funext fun a => Fin.ext ?_)
    match a with
    | ⟨0, _⟩ => rfl
    | ⟨1, _⟩ => rfl
  rw [hw, hst]
  simp

/-- An update of the sums lands at a segment's element exactly when its row's id is that segment and it is that element. -/
theorem lands2 (i : Fin 32768) (k : Fin 1024) (s : Fin 16) (j : Fin 1024) (idx : Vec Ideal S32768x1 .i32) :
    scatter_S16x1024_S32768x1_S32768x1024_1_0_0_1.resultIdx? (ix2 i k) idx = some (ix2 s j)
      ↔ (idx (ix2 i 0)).toInt = (s.val : ℤ) ∧ k = j := by
  rw [ix2_eq_valueIdx s, Routing.resultIdx?_ix2]
  have hw0 : scatter_S16x1024_S32768x1_S32768x1024_1_0_0_1.window (ix2 i k) 0 = 0 := rfl
  have hw1 : scatter_S16x1024_S32768x1_S32768x1024_1_0_0_1.window (ix2 i k) 1 = k.val := rfl
  have hs0 : scatter_S16x1024_S32768x1_S32768x1024_1_0_0_1.start (ix2 i k) idx 0 = (idx (ix2 i 0)).toInt := by
    unfold ScatterDims.start
    rw [dif_pos (by decide)]
    refine congrArg (fun y => (idx y).toInt) (funext fun a => Fin.ext ?_)
    match a with
    | ⟨0, _⟩ => rfl
    | ⟨1, _⟩ => rfl
  have hs1 : scatter_S16x1024_S32768x1_S32768x1024_1_0_0_1.start (ix2 i k) idx 1 = 0 := rfl
  rw [hw0, hw1, hs0, hs1, Fin.ext_iff]
  simp

/-- A fold that adds one at each hit counts the hits. -/
theorem fold_count {ι : Type} (p : ι → Prop) [DecidablePred p] (l : List ι) (z : ℕ) :
    l.foldl (fun a n => if p n then IntOp.addi a 1#32 else a) (BitVec.ofNat 32 z)
      = BitVec.ofNat 32 (z + l.countP fun n => decide (p n)) := by
  induction l generalizing z with
  | nil => simp
  | cons n l ih =>
    rw [List.foldl_cons, List.countP_cons]
    by_cases h : p n
    · rw [if_pos h, show IntOp.addi (BitVec.ofNat 32 z) 1#32 = BitVec.ofNat 32 (z + 1) from (BitVec.ofNat_add z 1).symm, ih]
      simp only [h, decide_true, if_true]
      congr 1
      omega
    · rw [if_neg h, ih]
      simp [h]

/-- A scatter that adds ones to zeros counts the updates that land. -/
theorem scatter_count {s si u : Shape} (d : ScatterDims s si u) (x0 : IVec s 32) (idx : IVec si 32) (upd : IVec u 32) (y : s.Idx)
    (hx : x0 y = 0#32) (hu : ∀ k, upd k = 1#32) :
    Host.scatter d IntOp.addi x0 idx upd y
      = BitVec.ofNat 32 (Finset.univ.filter fun k : u.Idx => d.resultIdx? k idx = some y).card := by
  rw [Routing.scatter_at, hx]
  simp only [hu]
  refine (fold_count (fun n => d.resultIdx? (u.rowMajor.symm n) idx = some y) _ 0).trans ?_
  rw [Nat.zero_add]
  congr 1
  rw [List.countP_eq_length_filter]
  refine Eq.trans (?_ : _ = (Finset.univ.filter fun n : Fin u.numel => d.resultIdx? (u.rowMajor.symm n) idx = some y).card) ?_
  · rfl
  · rw [Finset.card_filter, Finset.card_filter]
    exact Equiv.sum_comp u.rowMajor.symm (fun k => if d.resultIdx? k idx = some y then 1 else 0)

include hid in
theorem counts_apply (s : Fin 16) : counts id (ix1 s) = BitVec.ofNat 32 (num id s) := by
  unfold counts
  rw [clamp_eq id hid, wrap_eq id hid]
  refine (scatter_count _ _ _ _ _ rfl fun _ => rfl).trans (congrArg _ ?_)
  refine Finset.card_nbij' (fun y => y 0) (fun i => ix1 i) ?_ ?_ ?_ ?_
  · intro y hy
    obtain ⟨i, rfl⟩ : ∃ i : Fin 32768, y = ix1 i := ⟨y 0, eq_ix1 y⟩
    have h := (Finset.mem_filter.mp hy).2
    rw [lands1, column_apply, toInt_iff (hid i)] at h
    exact Finset.mem_filter.mpr ⟨Finset.mem_univ _, h⟩
  · intro i hi
    have h := (Finset.mem_filter.mp hi).2
    refine Finset.mem_filter.mpr ⟨Finset.mem_univ _, ?_⟩
    rw [lands1, column_apply, toInt_iff (hid i)]
    exact h
  · intro y _; exact (eq_ix1 y).symm
  · intro i _; rfl

/-- The sums over a segment's rows, an element at a time. -/
def sums (x : FVec Ideal S32768x1024 .f32) (id : Vec Ideal S32768 .i32) : FVec Ideal S16x1024 .f32 :=
  Host.scatterAdd scatter_S16x1024_S32768x1_S32768x1024_1_0_0_1
    (broadcastInDim S16x1024 ![] bcast_S_S16x1024 (constant S_ .f32 0x00000000#32)) (column id) x

/-- A sum scattered onto a zero is the sum of the updates that land. -/
theorem scatterAdd_sum {s si u : Shape} (d : ScatterDims s si u) (x0 : FVec Ideal s .f32) (idx : IVec si 32) (upd : FVec Ideal u .f32) (y : s.Idx)
    (hx : x0 y = 0) :
    Host.scatterAdd d x0 idx upd y = ∑ k ∈ Finset.univ.filter (fun k => d.resultIdx? k idx = some y), upd k := by
  show x0 y + _ = _
  rw [hx]
  exact zero_add _

include hid in
theorem sums_apply (x : FVec Ideal S32768x1024 .f32) (s : Fin 16) (j : Fin 1024) :
    sums x id (ix2 s j) = ∑ i : Fin 32768, hot (id (ix1 i)) s * x (ix2 i j) := by
  refine (scatterAdd_sum _ _ _ _ _ Ideal.ofBits_zero_f32).trans ?_
  rw [Finset.sum_filter, sum_idx2]
  refine Finset.sum_congr rfl fun i _ => ?_
  have h : ∀ k : Fin 1024, (if scatter_S16x1024_S32768x1_S32768x1024_1_0_0_1.resultIdx? (ix2 i k) (column id) = some (ix2 s j) then x (ix2 i k) else 0)
      = if k = j then hot (id (ix1 i)) s * x (ix2 i j) else 0 := by
    intro k
    simp only [lands2, column_apply, toInt_iff (hid i)]
    by_cases hk : k = j
    · subst hk
      by_cases hi : id (ix1 i) = BitVec.ofNat 32 s.val <;> simp [hi, hot]
    · simp [hk]
  simp only [h, Finset.sum_ite_eq', Finset.mem_univ, if_true]

end Cert.ReferenceIdeal.Seg
end
-- ==== Proof.RefValue.lean ====
/-
  WHAT THE REFERENCE COMPUTES, read at one element: the row's segment's mean is taken away, the difference is divided
  by the root of the segment's variance plus a small constant, then gain and bias are applied. The variance is the mean
  of the squared differences.
-/
module

public import proofs.«01_k».proof.Proof.RefSegments

@[expose] public section

set_option maxRecDepth 16384

noncomputable section

namespace Cert.ReferenceIdeal.Val

open Cert.ReferenceIdeal Cert.ReferenceIdeal.Gen Cert.ReferenceIdeal.Seg
open Idealize.ShloMosaic Idealize.ShloMosaic.TcCoe
open Cert.KernelIdeal.Block (hot)
open Cert.KernelIdeal.Arr (total)

/-! ## The printed term in parts -/

/-- The number of a segment's elements, as a number. -/
def size (id : Vec Ideal S32768 .i32) : FVec Ideal S16 .f32 :=
  sitofp .f32 (muli (counts id) (broadcastInDim S16 ![] bcast_S_S16 (constantI S_ 32 1024#32)))

/-- Each segment's mean. -/
def mean (x : FVec Ideal S32768x1024 .f32) (id : Vec Ideal S32768 .i32) : FVec Ideal S16 .f32 :=
  Host.divf (Host.reduceAdd (sums x id) (constant S_ .f32 0x00000000#32) reducesTo_S16x1024_S16_d1 h_S_) (size id)

/-- A number for each row, as a column. -/
def asColumn (v : FVec Ideal S32768 .f32) : FVec Ideal S32768x1 .f32 :=
  broadcastInDim S32768x1 ![0] bcast_S32768_S32768x1_0 v

/-- A column repeated along the rows. -/
def spread (v : FVec Ideal S32768x1 .f32) : FVec Ideal S32768x1024 .f32 :=
  broadcastInDim S32768x1024 ![0, 1] bcast_S32768x1_S32768x1024_0_1 v

/-- A row repeated down the columns. -/
def spreadRow (v : FVec Ideal S1024 .f32) : FVec Ideal S32768x1024 .f32 :=
  broadcastInDim S32768x1024 ![0, 1] bcast_S1x1024_S32768x1024_0_1 (broadcastInDim S1x1024 ![1] bcast_S1024_S1x1024_1 v)

/-- Each row less its segment's mean. -/
def centered (x : FVec Ideal S32768x1024 .f32) (id : Vec Ideal S32768 .i32) : FVec Ideal S32768x1024 .f32 :=
  subf x (spread (asColumn (take (mean x id) id)))

/-- Each segment's variance. -/
def variance (x : FVec Ideal S32768x1024 .f32) (id : Vec Ideal S32768 .i32) : FVec Ideal S16 .f32 :=
  mean (mulf (centered x id) (centered x id)) id

/-- The result. -/
def result (x : FVec Ideal S32768x1024 .f32) (id : Vec Ideal S32768 .i32) (ga bi : FVec Ideal S1024 .f32) :
    FVec Ideal S32768x1024 .f32 :=
  addf (mulf (spreadRow ga) (Host.divf (centered x id)
    (spread (Host.sqrt (addf (asColumn (take (variance x id) id))
      (broadcastInDim S32768x1 ![] bcast_S_S32768x1 (constant S_ .f32 0x3727C5AC#32))))))) (spreadRow bi)

/-- The printed term is the result so composed. -/
theorem res_eq (m : (ℓ : Loc nD τ sig) → Buf (Elt Ideal) ℓ) (c : Dev nD) :
    Cert.ReferenceIdeal.Value.res_out0 (F := Ideal) m c
      = result (m ((c.tc : Thread nD τ).loc main_arg0)) (m ((c.tc : Thread nD τ).loc main_arg1))
          (m ((c.tc : Thread nD τ).loc main_arg2)) (m ((c.tc : Thread nD τ).loc main_arg3)) := rfl

/-! ## The parts at an element -/

variable (x : FVec Ideal S32768x1024 .f32) (id : Vec Ideal S32768 .i32) (ga bi : FVec Ideal S1024 .f32) (hid : InRange id)

include hid in
theorem size_apply (s : Fin 16) : size id (ix1 s) = (((num id s : ℝ) * 1024 : ℝ) : EReal) := by
  have h := num_le id s
  have h0 : size id (ix1 s) = (((IntOp.muli (counts id (ix1 s)) 1024#32).toInt : ℝ) : EReal) := by
    pointwise [size]
    rfl
  have h1 : (IntOp.muli (BitVec.ofNat 32 (num id s)) 1024#32).toInt = (num id s : ℤ) * 1024 := by
    show (BitVec.ofNat 32 (num id s) * BitVec.ofNat 32 1024).toInt = _
    rw [← BitVec.ofNat_mul, StableHlo.Predicate.toInt_ofNat_small _ (by omega)]
    push_cast; rfl
  rw [h0, counts_apply id hid, h1]
  push_cast
  rfl

include hid in
theorem mean_apply (s : Fin 16) :
    mean x id (ix1 s) = Ideal.div (total x id s) (((num id s : ℝ) * 1024 : ℝ) : EReal) := by
  pointwise [mean]
  simp only [sums_apply id hid, size_apply id hid]
  rfl

include hid in
theorem centered_apply (i : Fin 32768) (j : Fin 1024) (s : Fin 16) (hs : id (ix1 i) = BitVec.ofNat 32 s.val) :
    centered x id (ix2 i j) = x (ix2 i j) - mean x id (ix1 s) := by
  pointwise [centered, spread, asColumn]
  rw [take_apply id hid _ i s hs]

include hid in
theorem result_apply (i : Fin 32768) (j : Fin 1024) (s : Fin 16) (hs : id (ix1 i) = BitVec.ofNat 32 s.val) :
    result x id ga bi (ix2 i j)
      = ga (ix1 j) * Ideal.div (x (ix2 i j) - mean x id (ix1 s))
          (Ideal.sqrt (variance x id (ix1 s) + Ideal.ofBits .f32 0x3727C5AC#32)) + bi (ix1 j) := by
  pointwise [result, spread, asColumn, spreadRow]
  rw [centered_apply x id hid i j s hs, take_apply id hid _ i s hs]

end Cert.ReferenceIdeal.Val
end
-- ==== Proof.Equation.lean ====
/-
  THE EQUATION. Where the ids are segments and the rows are real numbers, the array the kernel writes is the array the
  reference computes.

  A segment that has a row has at least 1024 elements, so the kernel's "at least one" changes nothing. The mean of the
  squared differences is the mean of the squares less the square of the mean; it is not negative, so the kernel's
  "at least zero" changes nothing either. The rest is real arithmetic: a reciprocal root against a division by a root.
-/
module

public import proofs.«01_k».proof.Proof.RefValue

@[expose] public section

set_option maxRecDepth 16384

noncomputable section

namespace Cert.Equation

open Cert.ReferenceIdeal Cert.ReferenceIdeal.Seg Cert.ReferenceIdeal.Val
open Idealize.ShloMosaic Idealize.ShloMosaic.TcCoe
open Cert.KernelIdeal.Block (hot den meanOf rstdOf sum_hot)
open Cert.KernelIdeal.Arr (total totalSq rows G)

/-! ## Real numbers -/

/-- The mean of the squared differences is the mean of the squares less the square of the mean. -/
theorem real_variance {κ : Type} [Fintype κ] (a y : κ → ℝ) (N : ℝ) (hN : N ≠ 0) (ha : ∑ k, a k = N) :
    (∑ k, a k * ((y k - (∑ k, a k * y k) * (1 / N)) * (y k - (∑ k, a k * y k) * (1 / N)))) * (1 / N)
      = (∑ k, a k * (y k * y k)) * (1 / N) - (∑ k, a k * y k) * (1 / N) * ((∑ k, a k * y k) * (1 / N)) := by
  set T := ∑ k, a k * y k with hT
  set u := T * (1 / N) with hu
  have h : ∑ k, a k * ((y k - u) * (y k - u)) = ∑ k, a k * (y k * y k) - 2 * u * T + u * u * N := by
    rw [← ha, hT, Finset.mul_sum, Finset.mul_sum, ← Finset.sum_sub_distrib, ← Finset.sum_add_distrib]
    exact Finset.sum_congr rfl fun k _ => by ring
  rw [h, hu]
  field_simp
  ring

/-- The sum of real numbers is their sum as extended numbers. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The greater of two real numbers is the greater as extended numbers. -/
theorem coe_max (a b : ℝ) : ((max a b : ℝ) : EReal) = max (a : EReal) (b : EReal) :=
  EReal.coe_strictMono.monotone.map_max

/-- The sum of the sums of real numbers is theirs as extended numbers. -/
theorem coe_sum2 (f : Fin 1024 → Fin 32768 → ℝ) :
    ((∑ j, ∑ i, f j i : ℝ) : EReal) = ∑ j, ∑ i, (f j i : EReal) := by
  rw [coe_sum]
  exact Finset.sum_congr rfl fun j _ => coe_sum _ _

theorem ofBits_1024 : Ideal.ofBits .f32 0x44800000#32 = ((1024 : ℝ) : EReal) := by
  simp [Ideal.ofBits, Ideal.ieee, -EReal.coe_mul]; norm_num

/-- The small constant is a positive real number. -/
theorem eps_pos : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-! ## The masks and the sums as real numbers -/

/-- The mask as a real number. -/
def ind (w : BitVec 32) (s : Fin 16) : ℝ := if w = BitVec.ofNat 32 s.val then 1 else 0

theorem hot_coe (w : BitVec 32) (s : Fin 16) : hot w s = (ind w s : EReal) := by
  unfold hot ind
  split <;> simp

variable (x : FVec Ideal S32768x1024 .f32) (id : Vec Ideal S32768 .i32) (ga bi : FVec Ideal S1024 .f32)
  (hid : InRange id) (xr : S32768x1024.Idx → ℝ) (hx : ∀ y, x y = (xr y : EReal))

theorem sum_ind (s : Fin 16) : ∑ i : Fin 32768, ind (id (ix1 i)) s = (num id s : ℝ) := by
  unfold ind num
  rw [Finset.sum_boole]

theorem rows_coe (s : Fin 16) : rows id s = ((num id s : ℝ) : EReal) := by
  unfold rows
  simp only [hot_coe]
  rw [← coe_sum, sum_ind]

/-- A masked sum of real numbers. -/
theorem total_coe (z : FVec Ideal S32768x1024 .f32) (f : Fin 32768 → Fin 1024 → ℝ) (s : Fin 16)
    (h : ∀ i j, hot (id (ix1 i)) s * z (ix2 i j) = ((ind (id (ix1 i)) s * f i j : ℝ) : EReal)) :
    total z id s = ((∑ j, ∑ i, ind (id (ix1 i)) s * f i j : ℝ) : EReal) := by
  unfold total
  simp only [h]
  exact (coe_sum2 _).symm

theorem den_coe (n : ℕ) (hn : 1 ≤ n) : den ((n : ℝ) : EReal) = (((n : ℝ) * 1024 : ℝ) : EReal) := by
  unfold den
  rw [ofBits_1024, ← EReal.coe_mul, ← EReal.coe_one, ← coe_max]
  congr 1
  have : (1 : ℝ) ≤ n := by exact_mod_cast hn
  exact max_eq_left (by linarith)

include hid hx in
/-- The kernel's element is the reference's. -/
theorem element (i : Fin 32768) (j : Fin 1024) : G x id ga bi (ix2 i j) = result x id ga bi (ix2 i j) := by
  obtain ⟨s, hs⟩ := hid i
  obtain ⟨e, he, hee⟩ := eps_pos
  have hn : 1 ≤ num id s := Finset.card_pos.mpr ⟨i, Finset.mem_filter.mpr ⟨Finset.mem_univ _, hs⟩⟩
  have hn' : (1 : ℝ) ≤ num id s := by exact_mod_cast hn
  set N : ℝ := (num id s : ℝ) * 1024 with hN
  have hN0 : N ≠ 0 := by rw [hN]; exact (show (0 : ℝ) < num id s * 1024 by linarith).ne'
  -- the sums
  set T : ℝ := ∑ j : Fin 1024, ∑ i : Fin 32768, ind (id (ix1 i)) s * xr (ix2 i j) with hT
  set Q : ℝ := ∑ j : Fin 1024, ∑ i : Fin 32768, ind (id (ix1 i)) s * (xr (ix2 i j) * xr (ix2 i j)) with hQ
  set u : ℝ := T * (1 / N) with hu
  have hTot : total x id s = (T : EReal) :=
    total_coe id x (fun i j => xr (ix2 i j)) s fun i j => by rw [hot_coe, hx, ← EReal.coe_mul]
  have hTotSq : totalSq x id s = (Q : EReal) :=
    total_coe id (fun y => x y * x y) (fun i j => xr (ix2 i j) * xr (ix2 i j)) s fun i j => by
      rw [hot_coe, hx, ← EReal.coe_mul, ← EReal.coe_mul]
  -- the mean
  have hmean : mean x id (ix1 s) = (u : EReal) := by
    rw [mean_apply x id hid s, hTot, Ideal.div_coe hN0, ← EReal.coe_mul]
  have hmeanK : meanOf (total x id s) (rows id s) = (u : EReal) := by
    unfold meanOf
    rw [rows_coe, den_coe _ hn, hTot, Ideal.div_coe hN0, ← EReal.coe_mul]
  -- the variance
  set W : ℝ := ∑ j : Fin 1024, ∑ i : Fin 32768, ind (id (ix1 i)) s * ((xr (ix2 i j) - u) * (xr (ix2 i j) - u)) with hW
  have hTotW : total (mulf (centered x id) (centered x id)) id s = (W : EReal) := by
    refine total_coe id _ (fun i j => (xr (ix2 i j) - u) * (xr (ix2 i j) - u)) s fun i j => ?_
    by_cases h : id (ix1 i) = BitVec.ofNat 32 s.val
    · show hot (id (ix1 i)) s * (centered x id (ix2 i j) * centered x id (ix2 i j)) = _
      rw [centered_apply x id hid i j s h, hmean, hx, hot_coe, ← EReal.coe_sub, ← EReal.coe_mul, ← EReal.coe_mul]
    · simp [hot, ind, h]
  have hvar : variance x id (ix1 s) = ((W * (1 / N) : ℝ) : EReal) := by
    unfold variance
    rw [mean_apply _ id hid s, hTotW, Ideal.div_coe hN0, ← EReal.coe_mul]
  have hone : ∑ k : Fin 1024 × Fin 32768, ind (id (ix1 k.2)) s = N := by
    rw [Fintype.sum_prod_type]
    simp only [sum_ind, Finset.sum_const, Finset.card_univ, Fintype.card_fin, nsmul_eq_mul]
    rw [hN]; push_cast; ring
  have hreal : W * (1 / N) = Q * (1 / N) - u * u := by
    have := real_variance (fun k : Fin 1024 × Fin 32768 => ind (id (ix1 k.2)) s) (fun k => xr (ix2 k.2 k.1)) N hN0 hone
    simpa only [Fintype.sum_prod_type] using this
  have hW0 : 0 ≤ W * (1 / N) := by
    refine mul_nonneg (Finset.sum_nonneg fun j _ => Finset.sum_nonneg fun i _ => mul_nonneg ?_ (mul_self_nonneg _)) ?_
    · unfold ind; split <;> norm_num
    · rw [hN]; positivity
  set v : ℝ := W * (1 / N) + e with hv
  have hv0 : 0 < v := by rw [hv]; linarith
  have hrstd : rstdOf (total x id s) (totalSq x id s) (rows id s) = (((Real.sqrt v)⁻¹ : ℝ) : EReal) := by
    unfold rstdOf
    rw [hmeanK, rows_coe, den_coe _ hn, hTotSq, Ideal.div_coe hN0, hee, ← EReal.coe_mul, ← EReal.coe_mul, ← EReal.coe_sub,
      ← EReal.coe_zero, ← coe_max, ← EReal.coe_add, ← hreal, max_eq_left hW0, ← hv, Ideal.rsqrt_coe,
      if_neg (not_lt.mpr hv0.le), if_neg hv0.ne']
  -- the two elements
  have hs0 : Real.sqrt v ≠ 0 := (Real.sqrt_pos.mpr hv0).ne'
  rw [result_apply x id ga bi hid i j s hs, hmean, hvar, hee, hx, ← EReal.coe_add, ← hv, Ideal.sqrt_coe,
    if_neg (not_lt.mpr hv0.le), Ideal.div_coe hs0, ← EReal.coe_sub, ← EReal.coe_mul]
  show (x (ix2 i j) * (∑ s : Fin 16, hot (id (ix1 i)) s * rstdOf (total x id s) (totalSq x id s) (rows id s))
      - ∑ s : Fin 16, hot (id (ix1 i)) s
          * (meanOf (total x id s) (rows id s) * rstdOf (total x id s) (totalSq x id s) (rows id s)))
    * ga (ix1 j) + bi (ix1 j) = _
  rw [hs, sum_hot s (fun s => rstdOf (total x id s) (totalSq x id s) (rows id s)),
    sum_hot s (fun s => meanOf (total x id s) (rows id s) * rstdOf (total x id s) (totalSq x id s) (rows id s)),
    hmeanK, hrstd, hx, ← EReal.coe_mul, ← EReal.coe_mul, ← EReal.coe_sub, mul_comm (ga _),
    show xr (ix2 i j) * (Real.sqrt v)⁻¹ - u * (Real.sqrt v)⁻¹ = (xr (ix2 i j) - u) * (1 / Real.sqrt v) by ring]

include hid hx in
/-- The array the kernel writes is the reference's. -/
theorem arrays : G x id ga bi = result x id ga bi := by
  funext y
  obtain ⟨i, j, rfl⟩ : ∃ (i : Fin 32768) (j : Fin 1024), y = ix2 i j := ⟨y 0, y 1, eq_ix2 y⟩
  exact element x id ga bi hid xr hx i j

end Cert.Equation
end
-- ==== Proof.Precondition.lean ====
/-
  WHAT THE PRECONDITION SAYS. The printed predicate is three conjunctions over arrays: every id is at least 0, every id
  is below 16, and every element of the rows is smaller in absolute value than infinity. Read at an index it says that
  each id names a segment and that each element is a real number.
-/
module

public import proofs.«01_k».proof.Proof.RefSegments
public import proofs.«01_k».proof.Proof.Gen.Pre_in_range_finite
public import Idealize.ShloMosaic.Lib.ReduceAll

@[expose] public section

noncomputable section

namespace Cert.Precondition

open Cert.Pre_in_range_finite Idealize.ShloMosaic
open Cert.ReferenceIdeal.Seg (InRange)

/-- An id that is at least 0 and below 16, as a signed number, is one of the sixteen. -/
theorem segment_of_bounds (w : BitVec 32) (h0 : IntOp.cmpi .sge w 0#32 = 1#1) (h1 : IntOp.cmpi .slt w 16#32 = 1#1) :
    ∃ s : Fin 16, w = BitVec.ofNat 32 s.val := by
  have a : (0#32).sle w = true := by
    cases h : (0#32).sle w
    · exact absurd h0 (by show ¬ BitVec.ofBool ((0#32).sle w) = 1#1; rw [h]; decide)
    · rfl
  have b : w.slt 16#32 = true := by
    cases h : w.slt 16#32
    · exact absurd h1 (by show ¬ BitVec.ofBool (w.slt 16#32) = 1#1; rw [h]; decide)
    · rfl
  have a' : (0 : Int) ≤ w.toInt := by simpa [BitVec.sle] using a
  have b' : w.toInt < 16 := by simpa [BitVec.slt] using b
  have hlt : w.toNat < 16 := by
    have := w.isLt
    rw [BitVec.toInt_eq_toNat_cond] at a' b'
    split at a' <;> omega
  exact ⟨⟨w.toNat, hlt⟩, BitVec.eq_of_toNat_eq (by simp)⟩

/-- An extended number smaller in absolute value than infinity is a real number. -/
theorem real_of_small (y : Ideal .f32)
    (h : FloatOps.cmpf .olt (FloatOps.hostAbsf y) (FloatOps.ofBits (F := Ideal) .f32 0x7F800000#32) = 1#1) :
    ∃ r : ℝ, y = (r : EReal) := by
  have htop : Ideal.ofBits .f32 0x7F800000#32 = ⊤ := by simp [Ideal.ofBits, Ideal.ieee]
  have h' : Ideal.cmp .olt (max (y : EReal) (-(y : EReal))) (Ideal.ofBits .f32 0x7F800000#32) = 1#1 := h
  rw [htop] at h'
  have hlt : max (y : EReal) (-(y : EReal)) < ⊤ := by
    by_contra hn
    simp [Ideal.cmp, hn] at h'
  obtain ⟨ht, hb⟩ := max_lt_iff.mp hlt
  refine ⟨EReal.toReal y, (EReal.coe_toReal ht.ne ?_).symm⟩
  rintro h0
  rw [h0] at hb
  simp at hb

instance : Subsingleton S_.Idx := ⟨fun a b => funext fun k => k.elim0⟩

variable (x : FVec Ideal S32768x1024 .f32) (id : IVec S32768 32) (ga bi : FVec Ideal S1024 .f32)
  (h : fn (F := Ideal) x id ga bi = fun _ => 1#1)

include h in
/-- The three conjunctions, taken apart. -/
theorem parts : (∀ i, IntOp.cmpi .sge (id i) 0#32 = 1#1) ∧ (∀ i, IntOp.cmpi .slt (id i) 16#32 = 1#1)
    ∧ ∀ y, FloatOps.cmpf .olt (FloatOps.hostAbsf (x y)) (FloatOps.ofBits (F := Ideal) .f32 0x7F800000#32) = 1#1 := by
  have e := congrFun h (fun k => k.elim0)
  obtain ⟨e1, e2⟩ := IntOp.andi_eq_one.mp e
  obtain ⟨e3, e4⟩ := IntOp.andi_eq_one.mp e1
  exact ⟨fun i => Host.reduce_andi_all _ _ _ _ _ e3 i, fun i => Host.reduce_andi_all _ _ _ _ _ e4 i,
    fun y => Host.reduce_andi_all _ _ _ _ _ e2 y⟩

include h in
/-- Each id names a segment. -/
theorem in_range : InRange id :=
  fun i => segment_of_bounds _ ((parts x id ga bi h).1 _) ((parts x id ga bi h).2.1 _)

include h in
/-- Each element is a real number. -/
theorem real : ∃ xr : S32768x1024.Idx → ℝ, ∀ y, x y = (xr y : EReal) :=
  ⟨fun y => (real_of_small _ ((parts x id ga bi h).2.2 y)).choose,
    fun y => (real_of_small _ ((parts x id ga bi h).2.2 y)).choose_spec⟩

end Cert.Precondition
end
-- ==== Proof.lean ====
/-
  THE CERTIFICATE of the segment layer normalisation kernel against its plain reference.

  `Proof/Body.lean`, `Proof/KernelRun.lean`: the kernel's body runs at every point and the call ends, the arguments
  unchanged. `Proof/KernelBits.lean`: the same for the kernel over machine words. `Proof/KernelBlock.lean`: what one
  block computes. `Proof/KernelArray.lean`: what the output array holds. `Proof/RefSegments.lean`,
  `Proof/RefValue.lean`: what the reference computes. `Proof/Equation.lean`: the two are equal.
  `Proof/Precondition.lean`: what the precondition says. This module assembles them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range_finite
public import proofs.«01_k».proof.Proof.KernelRun
public import proofs.«01_k».proof.Proof.KernelBits
public import proofs.«01_k».proof.Proof.KernelArray
public import proofs.«01_k».proof.Proof.RefValue
public import proofs.«01_k».proof.Proof.Equation
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged; it has no semaphores. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- From memories that agree on the arguments the kernel and the reference end with the same array. -/
theorem same_array : Cert.algebraic_KernelIdeal_ReferenceIdeal_pre_in_range_finite := by
  intro m g m' g' hpre hm
  refine ⟨fun c => Cert.KernelIdeal.Arr.G (Cert.KernelIdeal.Arr.X m c) (Cert.KernelIdeal.Arr.ID m c)
    (Cert.KernelIdeal.Arr.GA m c) (Cert.KernelIdeal.Arr.BI m c), ?_, ?_⟩
  · exact (θ_run Cert.KernelIdeal.defs _ _).mono
      (fun r h c => ⟨(h c).1.trans (Cert.KernelIdeal.Arr.array_eq m c), (h c).2⟩)
      (Cert.KernelIdeal.Run.run_value m g)
  · refine (θ_run Cert.ReferenceIdeal.defs _ _).mono (fun r h c => ⟨(h c).1.trans ?_, (h c).2⟩)
      (Cert.ReferenceIdeal.Value.run m' g')
    obtain ⟨h0, h1, h2, h3⟩ := hm c
    obtain ⟨xr, hx⟩ := Cert.Precondition.real _ _ _ _ (hpre c)
    refine (Cert.ReferenceIdeal.Val.res_eq m' c).trans ?_
    rw [h0, h1, h2, h3]
    exact (Cert.Equation.arrays _ _ _ _ (Cert.Precondition.in_range _ _ _ _ (hpre c)) xr hx).symm

theorem claim : Cert.Claim :=
  ⟨Cert.Kernel.Gen.facts, Cert.KernelIdeal.Gen.facts, Cert.ReferenceIdeal.Gen.facts, Cert.Pre_in_range_finite.Gen.facts,
    Cert.KernelBits.frame,
    fun m ρ _ => Cert.KernelIdeal.Run.quiescent m ρ,
    fun m ρ _ => Cert.KernelIdeal.Run.quiescent m ρ,
    reference_frame,
    fun m ρ _ => reference_frame m ρ trivial,
    trivial,
    same_array⟩

end Cert.Proof

end
